-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_layer [hPre_fresh_layer : Cert.Pre_fresh_layer.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_General (m : (ℓ : Loc Cert.General.nD Cert.General.τ Cert.General.sig) → Buf (Elt Bits) ℓ) : Prop :=
  True

def Pre_GeneralIdeal (m : (ℓ : Loc Cert.GeneralIdeal.nD Cert.GeneralIdeal.τ Cert.GeneralIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_fresh_layer [hPre_fresh_layer : Cert.Pre_fresh_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_fresh_layer [hKernelIdeal : Cert.KernelIdeal.Facts] [hPre_fresh_layer : Cert.Pre_fresh_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_General [hGeneral : Cert.General.Facts] : Prop :=
  ∀ (m : (ℓ : Loc Cert.General.nD Cert.General.τ Cert.General.sig) → Buf (Elt Bits) ℓ) (g : Dev Cert.General.nD → PrngReg), Pre_General m →
    θ_run (Cert.General.defs (F := Bits)) (onTc (τ := Cert.General.τ) (Cert.General.main (F := Bits))) ⟨m, fun _ => 0, g⟩ (fun r => (∀ c : Dev Cert.General.nD,
      r.2.mem ((c.tc : Thread Cert.General.nD Cert.General.τ).loc Cert.General.main_arg0) = m ((c.tc : Thread Cert.General.nD Cert.General.τ).loc Cert.General.main_arg0)
      ∧ r.2.mem ((c.tc : Thread Cert.General.nD Cert.General.τ).loc Cert.General.main_arg1) = m ((c.tc : Thread Cert.General.nD Cert.General.τ).loc Cert.General.main_arg1)
      ∧ r.2.mem ((c.tc : Thread Cert.General.nD Cert.General.τ).loc Cert.General.main_arg2) = m ((c.tc : Thread Cert.General.nD Cert.General.τ).loc Cert.General.main_arg2)
      ∧ r.2.mem ((c.tc : Thread Cert.General.nD Cert.General.τ).loc Cert.General.main_arg3) = m ((c.tc : Thread Cert.General.nD Cert.General.τ).loc Cert.General.main_arg3)
      ∧ r.2.mem ((c.tc : Thread Cert.General.nD Cert.General.τ).loc Cert.General.main_arg4) = m ((c.tc : Thread Cert.General.nD Cert.General.τ).loc Cert.General.main_arg4)
      ∧ r.2.mem ((c.tc : Thread Cert.General.nD Cert.General.τ).loc Cert.General.main_arg5) = m ((c.tc : Thread Cert.General.nD Cert.General.τ).loc Cert.General.main_arg5)
      ∧ r.2.mem ((c.tc : Thread Cert.General.nD Cert.General.τ).loc Cert.General.main_arg6) = m ((c.tc : Thread Cert.General.nD Cert.General.τ).loc Cert.General.main_arg6)
      ∧ r.2.mem ((c.tc : Thread Cert.General.nD Cert.General.τ).loc Cert.General.main_arg7) = m ((c.tc : Thread Cert.General.nD Cert.General.τ).loc Cert.General.main_arg7))
      ∧ r.2.sem = fun _ => 0)

def quiescent_GeneralIdeal [hGeneralIdeal : Cert.GeneralIdeal.Facts] : Prop :=
  ∀ (m : (ℓ : Loc Cert.GeneralIdeal.nD Cert.GeneralIdeal.τ Cert.GeneralIdeal.sig) → Buf (Elt Ideal) ℓ) (g : Dev Cert.GeneralIdeal.nD → PrngReg), Pre_GeneralIdeal m →
    θ_run (Cert.GeneralIdeal.defs (F := Ideal)) (onTc (τ := Cert.GeneralIdeal.τ) (Cert.GeneralIdeal.main (F := Ideal))) ⟨m, fun _ => 0, g⟩ (fun r => (∀ c : Dev Cert.GeneralIdeal.nD,
      r.2.mem ((c.tc : Thread Cert.GeneralIdeal.nD Cert.GeneralIdeal.τ).loc Cert.GeneralIdeal.main_arg0) = m ((c.tc : Thread Cert.GeneralIdeal.nD Cert.GeneralIdeal.τ).loc Cert.GeneralIdeal.main_arg0)
      ∧ r.2.mem ((c.tc : Thread Cert.GeneralIdeal.nD Cert.GeneralIdeal.τ).loc Cert.GeneralIdeal.main_arg1) = m ((c.tc : Thread Cert.GeneralIdeal.nD Cert.GeneralIdeal.τ).loc Cert.GeneralIdeal.main_arg1)
      ∧ r.2.mem ((c.tc : Thread Cert.GeneralIdeal.nD Cert.GeneralIdeal.τ).loc Cert.GeneralIdeal.main_arg2) = m ((c.tc : Thread Cert.GeneralIdeal.nD Cert.GeneralIdeal.τ).loc Cert.GeneralIdeal.main_arg2)
      ∧ r.2.mem ((c.tc : Thread Cert.GeneralIdeal.nD Cert.GeneralIdeal.τ).loc Cert.GeneralIdeal.main_arg3) = m ((c.tc : Thread Cert.GeneralIdeal.nD Cert.GeneralIdeal.τ).loc Cert.GeneralIdeal.main_arg3)
      ∧ r.2.mem ((c.tc : Thread Cert.GeneralIdeal.nD Cert.GeneralIdeal.τ).loc Cert.GeneralIdeal.main_arg4) = m ((c.tc : Thread Cert.GeneralIdeal.nD Cert.GeneralIdeal.τ).loc Cert.GeneralIdeal.main_arg4)
      ∧ r.2.mem ((c.tc : Thread Cert.GeneralIdeal.nD Cert.GeneralIdeal.τ).loc Cert.GeneralIdeal.main_arg5) = m ((c.tc : Thread Cert.GeneralIdeal.nD Cert.GeneralIdeal.τ).loc Cert.GeneralIdeal.main_arg5)
      ∧ r.2.mem ((c.tc : Thread Cert.GeneralIdeal.nD Cert.GeneralIdeal.τ).loc Cert.GeneralIdeal.main_arg6) = m ((c.tc : Thread Cert.GeneralIdeal.nD Cert.GeneralIdeal.τ).loc Cert.GeneralIdeal.main_arg6)
      ∧ r.2.mem ((c.tc : Thread Cert.GeneralIdeal.nD Cert.GeneralIdeal.τ).loc Cert.GeneralIdeal.main_arg7) = m ((c.tc : Thread Cert.GeneralIdeal.nD Cert.GeneralIdeal.τ).loc Cert.GeneralIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_fresh_layer [hReferenceIdeal : Cert.ReferenceIdeal.Facts] [hPre_fresh_layer : Cert.Pre_fresh_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def preserves_General_GeneralIdeal : Prop :=
  True

def algebraic_KernelIdeal_ReferenceIdeal_pre_fresh_layer [hKernelIdeal : Cert.KernelIdeal.Facts] [hReferenceIdeal : Cert.ReferenceIdeal.Facts] [hPre_fresh_layer : Cert.Pre_fresh_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_GeneralIdeal_ReferenceIdeal [hGeneralIdeal : Cert.GeneralIdeal.Facts] [hReferenceIdeal : Cert.ReferenceIdeal.Facts] : Prop :=
  ∀ (m : (ℓ : Loc Cert.GeneralIdeal.nD Cert.GeneralIdeal.τ Cert.GeneralIdeal.sig) → Buf (Elt Ideal) ℓ) (g : Dev Cert.GeneralIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GeneralIdeal m →
    (∀ c : Dev Cert.GeneralIdeal.nD,
      m' ((c.tc : Thread Cert.ReferenceIdeal.nD Cert.ReferenceIdeal.τ).loc Cert.ReferenceIdeal.main_arg0) = m ((c.tc : Thread Cert.GeneralIdeal.nD Cert.GeneralIdeal.τ).loc Cert.GeneralIdeal.main_arg0)
      ∧ m' ((c.tc : Thread Cert.ReferenceIdeal.nD Cert.ReferenceIdeal.τ).loc Cert.ReferenceIdeal.main_arg1) = m ((c.tc : Thread Cert.GeneralIdeal.nD Cert.GeneralIdeal.τ).loc Cert.GeneralIdeal.main_arg1)
      ∧ m' ((c.tc : Thread Cert.ReferenceIdeal.nD Cert.ReferenceIdeal.τ).loc Cert.ReferenceIdeal.main_arg2) = m ((c.tc : Thread Cert.GeneralIdeal.nD Cert.GeneralIdeal.τ).loc Cert.GeneralIdeal.main_arg2)
      ∧ m' ((c.tc : Thread Cert.ReferenceIdeal.nD Cert.ReferenceIdeal.τ).loc Cert.ReferenceIdeal.main_arg3) = m ((c.tc : Thread Cert.GeneralIdeal.nD Cert.GeneralIdeal.τ).loc Cert.GeneralIdeal.main_arg3)
      ∧ m' ((c.tc : Thread Cert.ReferenceIdeal.nD Cert.ReferenceIdeal.τ).loc Cert.ReferenceIdeal.main_arg4) = m ((c.tc : Thread Cert.GeneralIdeal.nD Cert.GeneralIdeal.τ).loc Cert.GeneralIdeal.main_arg4)
      ∧ m' ((c.tc : Thread Cert.ReferenceIdeal.nD Cert.ReferenceIdeal.τ).loc Cert.ReferenceIdeal.main_arg5) = m ((c.tc : Thread Cert.GeneralIdeal.nD Cert.GeneralIdeal.τ).loc Cert.GeneralIdeal.main_arg5)
      ∧ m' ((c.tc : Thread Cert.ReferenceIdeal.nD Cert.ReferenceIdeal.τ).loc Cert.ReferenceIdeal.main_arg6) = m ((c.tc : Thread Cert.GeneralIdeal.nD Cert.GeneralIdeal.τ).loc Cert.GeneralIdeal.main_arg6)
      ∧ m' ((c.tc : Thread Cert.ReferenceIdeal.nD Cert.ReferenceIdeal.τ).loc Cert.ReferenceIdeal.main_arg7) = m ((c.tc : Thread Cert.GeneralIdeal.nD Cert.GeneralIdeal.τ).loc Cert.GeneralIdeal.main_arg7)) →
    ∃ (v0 : (c : Dev Cert.GeneralIdeal.nD) → Buf (Elt Ideal) ((c.tc : Thread Cert.GeneralIdeal.nD Cert.GeneralIdeal.τ).loc Cert.GeneralIdeal.main_v8)),
      θ_run (Cert.GeneralIdeal.defs (F := Ideal)) (onTc (τ := Cert.GeneralIdeal.τ) (Cert.GeneralIdeal.main (F := Ideal))) ⟨m, fun _ => 0, g⟩ (fun r => ∀ c : Dev Cert.GeneralIdeal.nD,
          r.2.mem ((c.tc : Thread Cert.GeneralIdeal.nD Cert.GeneralIdeal.τ).loc Cert.GeneralIdeal.main_v8) = v0 c
          ∧ r.2.mem ((c.tc : Thread Cert.GeneralIdeal.nD Cert.GeneralIdeal.τ).loc Cert.GeneralIdeal.main_arg0) = m ((c.tc : Thread Cert.GeneralIdeal.nD Cert.GeneralIdeal.τ).loc Cert.GeneralIdeal.main_arg0)
          ∧ r.2.mem ((c.tc : Thread Cert.GeneralIdeal.nD Cert.GeneralIdeal.τ).loc Cert.GeneralIdeal.main_arg1) = m ((c.tc : Thread Cert.GeneralIdeal.nD Cert.GeneralIdeal.τ).loc Cert.GeneralIdeal.main_arg1)
          ∧ r.2.mem ((c.tc : Thread Cert.GeneralIdeal.nD Cert.GeneralIdeal.τ).loc Cert.GeneralIdeal.main_arg2) = m ((c.tc : Thread Cert.GeneralIdeal.nD Cert.GeneralIdeal.τ).loc Cert.GeneralIdeal.main_arg2)
          ∧ r.2.mem ((c.tc : Thread Cert.GeneralIdeal.nD Cert.GeneralIdeal.τ).loc Cert.GeneralIdeal.main_arg3) = m ((c.tc : Thread Cert.GeneralIdeal.nD Cert.GeneralIdeal.τ).loc Cert.GeneralIdeal.main_arg3)
          ∧ r.2.mem ((c.tc : Thread Cert.GeneralIdeal.nD Cert.GeneralIdeal.τ).loc Cert.GeneralIdeal.main_arg4) = m ((c.tc : Thread Cert.GeneralIdeal.nD Cert.GeneralIdeal.τ).loc Cert.GeneralIdeal.main_arg4)
          ∧ r.2.mem ((c.tc : Thread Cert.GeneralIdeal.nD Cert.GeneralIdeal.τ).loc Cert.GeneralIdeal.main_arg5) = m ((c.tc : Thread Cert.GeneralIdeal.nD Cert.GeneralIdeal.τ).loc Cert.GeneralIdeal.main_arg5)
          ∧ r.2.mem ((c.tc : Thread Cert.GeneralIdeal.nD Cert.GeneralIdeal.τ).loc Cert.GeneralIdeal.main_arg6) = m ((c.tc : Thread Cert.GeneralIdeal.nD Cert.GeneralIdeal.τ).loc Cert.GeneralIdeal.main_arg6)
          ∧ r.2.mem ((c.tc : Thread Cert.GeneralIdeal.nD Cert.GeneralIdeal.τ).loc Cert.GeneralIdeal.main_arg7) = m ((c.tc : Thread Cert.GeneralIdeal.nD Cert.GeneralIdeal.τ).loc Cert.GeneralIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hGeneral : Cert.General.Facts) (hGeneralIdeal : Cert.GeneralIdeal.Facts) (hReferenceIdeal : Cert.ReferenceIdeal.Facts) (hPre_fresh_layer : Cert.Pre_fresh_layer.Facts),
    quiescent_Kernel (hKernel := hKernel)
    ∧ quiescent_KernelIdeal (hKernelIdeal := hKernelIdeal)
    ∧ quiescent_KernelIdeal_pre_fresh_layer (hKernelIdeal := hKernelIdeal) (hPre_fresh_layer := hPre_fresh_layer)
    ∧ quiescent_General (hGeneral := hGeneral)
    ∧ quiescent_GeneralIdeal (hGeneralIdeal := hGeneralIdeal)
    ∧ quiescent_ReferenceIdeal (hReferenceIdeal := hReferenceIdeal)
    ∧ quiescent_ReferenceIdeal_pre_fresh_layer (hReferenceIdeal := hReferenceIdeal) (hPre_fresh_layer := hPre_fresh_layer)
    ∧ preserves_Kernel_KernelIdeal
    ∧ preserves_General_GeneralIdeal
    ∧ algebraic_KernelIdeal_ReferenceIdeal_pre_fresh_layer (hKernelIdeal := hKernelIdeal) (hReferenceIdeal := hReferenceIdeal) (hPre_fresh_layer := hPre_fresh_layer)
    ∧ algebraic_GeneralIdeal_ReferenceIdeal (hGeneralIdeal := hGeneralIdeal) (hReferenceIdeal := hReferenceIdeal)
-- ==== Pre_fresh_layer.lean ====
abbrev S2x2048x2048 : Shape := ⟨3, ![2, 2048, 2048]⟩
abbrev S16x2048 : Shape := ⟨2, ![16, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S2x2048x2048 .f32) (main_arg1 : FVec F S16x2048 .f32) (main_arg2 : FVec F S2048 .f32) (main_arg3 : FVec F S2048 .f32) (main_arg4 : FVec F S2048x8192 .f32) (main_arg5 : FVec F S8192 .f32) (main_arg6 : FVec F S8192x2048 .f32) (main_arg7 : FVec F S2048 .f32) : IVec S_ 1 :=
  let main_cst : FVec F S_ .f32 := constant S_ .f32 0x3F800000#32
  let main_v0 : FVec F S2048 .f32 := broadcastInDim S2048 ![] bcast_S_S2048 main_cst
  let main_v1 : IVec S2048 1 := cmpf .oeq main_arg2 main_v0
  let main_c : IVec S_ 1 := constantI S_ 1 1#1
  let main_v2 : IVec S_ 1 := (fun x v => Host.reduce IntOp.andi x v reducesTo_S2048_S_d0 h_S_) main_v1 main_c
  let main_cst_0 : FVec F S_ .f32 := constant S_ .f32 0x00000000#32
  let main_v3 : FVec F S2048 .f32 := broadcastInDim S2048 ![] bcast_S_S2048 main_cst_0
  let main_v4 : IVec S2048 1 := cmpf .oeq main_arg3 main_v3
  let main_c_1 : IVec S_ 1 := constantI S_ 1 1#1
  let main_v5 : IVec S_ 1 := (fun x v => Host.reduce IntOp.andi x v reducesTo_S2048_S_d0 h_S_) main_v4 main_c_1
  let main_v6 : IVec S_ 1 := andi main_v2 main_v5
  let main_cst_2 : FVec F S_ .f32 := constant S_ .f32 0x00000000#32
  let main_v7 : FVec F S8192 .f32 := broadcastInDim S8192 ![] bcast_S_S8192 main_cst_2
  let main_v8 : IVec S8192 1 := cmpf .oeq main_arg5 main_v7
  let main_c_3 : IVec S_ 1 := constantI S_ 1 1#1
  let main_v9 : IVec S_ 1 := (fun x v => Host.reduce IntOp.andi x v reducesTo_S8192_S_d0 h_S_) main_v8 main_c_3
  let main_v10 : IVec S_ 1 := andi main_v6 main_v9
  let main_cst_4 : FVec F S_ .f32 := constant S_ .f32 0x00000000#32
  let main_v11 : FVec F S2048 .f32 := broadcastInDim S2048 ![] bcast_S_S2048 main_cst_4
  let main_v12 : IVec S2048 1 := cmpf .oeq main_arg7 main_v11
  let main_c_5 : IVec S_ 1 := constantI S_ 1 1#1
  let main_v13 : IVec S_ 1 := (fun x v => Host.reduce IntOp.andi x v reducesTo_S2048_S_d0 h_S_) main_v12 main_c_5
  let main_v14 : IVec S_ 1 := andi main_v10 main_v13
  main_v14
-- ==== Kernel.lean ====
abbrev S2x2048x2048 : Shape := ⟨3, ![2, 2048, 2048]⟩
abbrev S16x2048 : Shape := ⟨2, ![16, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S4096x2048 : Shape := ⟨2, ![4096, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S4096x2048, .f32⟩
  | .hbm, ⟨9, _⟩ => ⟨S4096x2048, .f32⟩
  | .hbm, ⟨10, _⟩ => ⟨S2x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== General.lean ====
abbrev S2x2048x2048 : Shape := ⟨3, ![2, 2048, 2048]⟩
abbrev S16x2048 : Shape := ⟨2, ![16, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S4096x2048 : Shape := ⟨2, ![4096, 2048]⟩
abbrev S1x2048 : Shape := ⟨2, ![1, 2048]⟩
abbrev S1x8192 : Shape := ⟨2, ![1, 8192]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1x1024 : Shape := ⟨2, ![1, 1024]⟩
abbrev S1024 : Shape := ⟨1, ![1024]⟩
abbrev S1024x2048 : Shape := ⟨2, ![1024, 2048]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S4096x2048, .f32⟩
  | .hbm, ⟨9, _⟩ => ⟨S1x2048, .f32⟩
  | .hbm, ⟨10, _⟩ => ⟨S1x2048, .f32⟩
  | .hbm, ⟨11, _⟩ => ⟨S2048x8192, .bf16⟩
  | .hbm, ⟨12, _⟩ => ⟨S1x8192, .f32⟩
  | .hbm, ⟨13, _⟩ => ⟨S8192x2048, .bf16⟩
  | .hbm, ⟨14, _⟩ => ⟨S1x2048, .f32⟩
  | .hbm, ⟨15, _⟩ => ⟨S4096x2048, .f32⟩
  | .hbm, ⟨16, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x2048x2048 : Shape := ⟨3, ![2, 2048, 2048]⟩
abbrev S16x2048 : Shape := ⟨2, ![16, 2048]⟩
abbrev S2048 : Shape := ⟨1, ![2048]⟩
abbrev S2048x8192 : Shape := ⟨2, ![2048, 8192]⟩
abbrev S8192 : Shape := ⟨1, ![8192]⟩
abbrev S8192x2048 : Shape := ⟨2, ![8192, 2048]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x2048 : Shape := ⟨2, ![1, 2048]⟩
abbrev S2048x16 : Shape := ⟨2, ![2048, 16]⟩
abbrev S4096x16 : Shape := ⟨2, ![4096, 16]⟩
abbrev S4096x8192 : Shape := ⟨2, ![4096, 8192]⟩
abbrev S1x8192 : Shape := ⟨2, ![1, 8192]⟩

abbrev nBuf : Space → Nat
  | .hbm => 207
  | .vmem => 0
  | .smem => 0
  | _ => 0

abbrev hbmTy0_0 (i : Nat) : BufTy := match i % 128 with
  | 0 => ⟨S2x2048x2048, .f32⟩
  | 1 => ⟨S16x2048, .f32⟩
  | 2 => ⟨S2048, .f32⟩
  | 3 => ⟨S2048, .f32⟩
  | 4 => ⟨S2048x8192, .f32⟩
  | 5 => ⟨S8192, .f32⟩
  | 6 => ⟨S8192x2048, .f32⟩
  | 7 => ⟨S2048, .f32⟩
  | 8 => ⟨S4096x2048, .f32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S1, .i32⟩
  | 19 => ⟨S_, .i32⟩
  | 20 => ⟨S4096x1, .i32⟩
  | 21 => ⟨S4096x1, .i1⟩
  | 22 => ⟨S1x1, .i32⟩
  | 23 => ⟨S4096x1, .i32⟩
  | 24 => ⟨S4096x1, .i1⟩
  | 25 => ⟨S4096x1, .i1⟩
  | 26 => ⟨S_, .i1⟩
  | 27 => ⟨S4096, .i1⟩
  | 28 => ⟨S4096x2048, .f32⟩
  | 29 => ⟨S4096x2048, .i1⟩
  | 30 => ⟨S_, .f32⟩
  | 31 => ⟨S4096x2048, .f32⟩
  | 32 => ⟨S4096x2048, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x2048, .f32⟩
  | 40 => ⟨S4096x2048, .f32⟩
  | 41 => ⟨S4096x2048, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x2048, .f32⟩
  | 49 => ⟨S4096x2048, .f32⟩
  | 50 => ⟨S_, .f32⟩
  | 51 => ⟨S4096x1, .f32⟩
  | 52 => ⟨S4096x1, .f32⟩
  | 53 => ⟨S4096x1, .f32⟩
  | 54 => ⟨S4096x2048, .f32⟩
  | 55 => ⟨S4096x2048, .f32⟩
  | 56 => ⟨S1x2048, .f32⟩
  | 57 => ⟨S4096x2048, .f32⟩
  | 58 => ⟨S4096x2048, .f32⟩
  | 59 => ⟨S1x2048, .f32⟩
  | 60 => ⟨S4096x2048, .f32⟩
  | 61 => ⟨S4096x2048, .f32⟩
  | 62 => ⟨S2048x16, .f32⟩
  | 63 => ⟨S4096x16, .f32⟩
  | 64 => ⟨S4096x16, .i32⟩
  | 65 => ⟨S_, .f32⟩
  | 66 => ⟨S_, .i32⟩
  | 67 => ⟨S4096, .f32⟩
  | 68 => ⟨S4096, .i32⟩
  | 69 => ⟨S4096, .i32⟩
  | 70 => ⟨S4096, .i32⟩
  | 71 => ⟨S4096, .i32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S1, .i32⟩
  | 81 => ⟨S_, .i32⟩
  | 82 => ⟨S4096x1, .i32⟩
  | 83 => ⟨S4096x1, .i1⟩
  | 84 => ⟨S1x1, .i32⟩
  | 85 => ⟨S4096x1, .i32⟩
  | 86 => ⟨S4096x1, .i1⟩
  | 87 => ⟨S4096x1, .i1⟩
  | 88 => ⟨S_, .i1⟩
  | 89 => ⟨S4096, .i1⟩
  | 90 => ⟨S4096x2048, .f32⟩
  | 91 => ⟨S4096x2048, .i1⟩
  | 92 => ⟨S_, .f32⟩
  | 93 => ⟨S4096x2048, .f32⟩
  | 94 => ⟨S4096x2048, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S4096x2048, .f32⟩
  | 102 => ⟨S4096x2048, .f32⟩
  | 103 => ⟨S4096x2048, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S4096x2048, .f32⟩
  | 111 => ⟨S4096x2048, .f32⟩
  | 112 => ⟨S_, .f32⟩
  | 113 => ⟨S4096x1, .f32⟩
  | 114 => ⟨S4096x1, .f32⟩
  | 115 => ⟨S4096x1, .f32⟩
  | 116 => ⟨S4096x2048, .f32⟩
  | 117 => ⟨S4096x2048, .f32⟩
  | 118 => ⟨S1x2048, .f32⟩
  | 119 => ⟨S4096x2048, .f32⟩
  | 120 => ⟨S4096x2048, .f32⟩
  | 121 => ⟨S1x2048, .f32⟩
  | 122 => ⟨S4096x2048, .f32⟩
  | 123 => ⟨S4096x2048, .f32⟩
  | 124 => ⟨S4096x8192, .f32⟩
  | 125 => ⟨S1x8192, .f32⟩
  | 126 => ⟨S4096x8192, .f32⟩
  | 127 => ⟨S4096x8192, .f32⟩
  | _ => ⟨S2x2048x2048, .f32⟩

abbrev hbmTy0_1 (i : Nat) : BufTy := match i % 128 with
  | 0 => ⟨S_, .f32⟩
  | 1 => ⟨S4096x8192, .f32⟩
  | 2 => ⟨S4096x8192, .f32⟩
  | 3 => ⟨S4096x2048, .f32⟩
  | 4 => ⟨S4096x2048, .f32⟩
  | 5 => ⟨S1x2048, .f32⟩
  | 6 => ⟨S4096x2048, .f32⟩
  | 7 => ⟨S4096x2048, .f32⟩
  | 8 => ⟨S_, .i32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S1, .i32⟩
  | 29 => ⟨S_, .i32⟩
  | 30 => ⟨S4096x1, .i32⟩
  | 31 => ⟨S4096x1, .i1⟩
  | 32 => ⟨S1x1, .i32⟩
  | 33 => ⟨S4096x1, .i32⟩
  | 34 => ⟨S4096x1, .i1⟩
  | 35 => ⟨S4096x1, .i1⟩
  | 36 => ⟨S_, .i1⟩
  | 37 => ⟨S4096, .i1⟩
  | 38 => ⟨S4096x2048, .f32⟩
  | 39 => ⟨S4096x2048, .i1⟩
  | 40 => ⟨S_, .f32⟩
  | 41 => ⟨S4096x2048, .f32⟩
  | 42 => ⟨S4096x2048, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S1, .i32⟩
  | 64 => ⟨S_, .i32⟩
  | 65 => ⟨S4096x1, .i32⟩
  | 66 => ⟨S4096x1, .i1⟩
  | 67 => ⟨S1x1, .i32⟩
  | 68 => ⟨S4096x1, .i32⟩
  | 69 => ⟨S4096x1, .i1⟩
  | 70 => ⟨S4096x1, .i1⟩
  | 71 => ⟨S_, .i1⟩
  | 72 => ⟨S4096, .i1⟩
  | 73 => ⟨S4096x2048, .f32⟩
  | 74 => ⟨S4096x2048, .i1⟩
  | 75 => ⟨S_, .f32⟩
  | 76 => ⟨S4096x2048, .f32⟩
  | 77 => ⟨S4096x2048, .f32⟩
  | 78 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v29 : Ref sig .tc := ⟨.hbm, 68, rfl⟩
abbrev main_call2_v0 : Ref sig .tc := ⟨.hbm, 69, rfl⟩
abbrev main_call2_v1_0 : Ref sig .tc := ⟨.hbm, 70, rfl⟩
abbrev main_v30 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v31 : Ref sig .tc := ⟨.hbm, 94, rfl⟩
abbrev main_cst_4 : Ref sig .tc := ⟨.hbm, 95, rfl⟩
abbrev main_v32 : Ref sig .tc := ⟨.hbm, 96, rfl⟩
abbrev main_v33 : Ref sig .tc := ⟨.hbm, 97, rfl⟩
abbrev main_cst_5 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_6 : Ref sig .tc := ⟨.hbm, 104, rfl⟩
abbrev main_v39 : Ref sig .tc := ⟨.hbm, 105, rfl⟩
abbrev main_v40 : Ref sig .tc := ⟨.hbm, 106, rfl⟩
abbrev main_cst_7 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_cst_8 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_call4_cst : Ref sig .tc := ⟨.hbm, 128, rfl⟩
abbrev main_call4_v0 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_c : Ref sig .tc := ⟨.hbm, 136, rfl⟩
abbrev main_v66 : Ref sig .tc := ⟨.hbm, 137, rfl⟩
abbrev main_v67 : Ref sig .tc := ⟨.hbm, 138, rfl⟩
abbrev main_c_9 : Ref sig .tc := ⟨.hbm, 139, rfl⟩
abbrev main_v68 : Ref sig .tc := ⟨.hbm, 140, rfl⟩
abbrev main_v69 : Ref sig .tc := ⟨.hbm, 141, rfl⟩
abbrev main_c_10 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v75 : Ref sig .tc := ⟨.hbm, 170, rfl⟩
abbrev main_c_11 : Ref sig .tc := ⟨.hbm, 171, rfl⟩
abbrev main_v76 : Ref sig .tc := ⟨.hbm, 172, rfl⟩
abbrev main_v77 : Ref sig .tc := ⟨.hbm, 173, rfl⟩
abbrev main_c_12 : Ref sig .tc := ⟨.hbm, 174, rfl⟩
abbrev main_v78 : Ref sig .tc := ⟨.hbm, 175, rfl⟩
abbrev main_v79 : Ref sig .tc := ⟨.hbm, 176, rfl⟩
abbrev main_c_13 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_call6_c : Ref sig .tc := ⟨.hbm, 183, rfl⟩
abbrev main_call6_v0 : Ref sig .tc := ⟨.hbm, 184, rfl⟩
abbrev main_call6_v1 : Ref sig .tc := ⟨.hbm, 185, rfl⟩
abbrev main_call6_c_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_v5 : Ref sig .tc := ⟨.hbm, 190, rfl⟩
abbrev main_call6_c_1 : Ref sig .tc := ⟨.hbm, 191, rfl⟩
abbrev main_call6_c_2 : Ref sig .tc := ⟨.hbm, 192, rfl⟩
abbrev main_call6_v6 : Ref sig .tc := ⟨.hbm, 193, rfl⟩
abbrev main_call6_v7 : Ref sig .tc := ⟨.hbm, 194, rfl⟩
abbrev main_call6_v8 : Ref sig .tc := ⟨.hbm, 195, rfl⟩
abbrev main_call6_v9 : Ref sig .tc := ⟨.hbm, 196, rfl⟩
abbrev main_call6_v10 : Ref sig .tc := ⟨.hbm, 197, rfl⟩
abbrev main_call6_v11 : Ref sig .tc := ⟨.hbm, 198, rfl⟩
abbrev main_call6_c_3 : Ref sig .tc := ⟨.hbm, 199, rfl⟩
abbrev main_call6_v12 : Ref sig .tc := ⟨.hbm, 200, rfl⟩
abbrev main_call6_v13 : Ref sig .tc := ⟨.hbm, 201, rfl⟩
abbrev main_call6_v14 : Ref sig .tc := ⟨.hbm, 202, rfl⟩
abbrev main_call6_cst : Ref sig .tc := ⟨.hbm, 203, rfl⟩
abbrev main_call6_v15 : Ref sig .tc := ⟨.hbm, 204, rfl⟩
abbrev main_v85 : Ref sig .tc := ⟨.hbm, 205, rfl⟩
abbrev main_v86 : Ref sig .tc := ⟨.hbm, 206, rfl⟩

abbrev nD : Nat := 1
abbrev τ : Topo := Topo.v7x

variable {F : FTy → Type} [FloatOps F]
-- ==== Proof.RefTerm.lean ====
/- The reference's result as one term over its arguments. -/
module

public import proofs.«01_k».proof.Proof.Gen.ReferenceIdeal
public import Idealize.ShloMosaic.Adequacy
public import Idealize.ShloMosaic.Init
public import Idealize.ShloMosaic.Lib.Claim
public import Idealize.ShloMosaic.Lib.StableHlo.RunHlo

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

variable {F : FTy → Type} [FloatOps F]

/-- The row numbers a take or a scatter really uses: a negative one counts from the end. -/
def wrap (i : IVec S4096 32) : IVec S4096 32 :=
  select (cmpi .slt i (broadcastInDim S4096 ![] bcast_S_S4096 (constantI S_ 32 0#32)))
    (addi i (broadcastInDim S4096 ![] bcast_S_S4096 (constantI S_ 32 4096#32))) i

/-- Row numbers as a column. -/
def column (i : IVec S4096 32) : IVec S4096x1 32 := broadcastInDim S4096x1 ![0] bcast_S4096_S4096x1_0 i

/-- Which of a column's row numbers lie in the array. -/
def inside (i : IVec S4096x1 32) : IVec S4096 1 :=
  Host.reduce IntOp.andi
    (andi (cmpi .sge i (broadcastInDim S4096x1 ![] bcast_S_S4096x1 (constantI S_ 32 0#32)))
      (cmpi .sle i (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- The rows of `x` that `i` names, a row outside the array as a NaN. -/
def takeRows (x : FVec F S4096x2048 .f32) (i : IVec S4096 32) : FVec F S4096x2048 .f32 :=
  select (broadcastInDim S4096x2048 ![0] bcast_S4096_S4096x2048_0 (inside (column (wrap i))))
    (Host.gather gather_S4096x2048_S4096x1_S4096x2048_1_0_n_n_0_1_12048 x (column (wrap i)))
    (broadcastInDim S4096x2048 ![] bcast_S_S4096x2048 (constant S_ .f32 0x7FC00000#32))

/-- The mean of each row, as a column. -/
def rowMean (x : FVec F S4096x2048 .f32) : FVec F S4096x1 .f32 :=
  Host.divf (broadcastInDim S4096x1 ![0] bcast_S4096_S4096x1_0
      (Host.reduceAdd x (constant S_ .f32 0x00000000#32) reducesTo_S4096x2048_S4096_d1 h_S_))
    (broadcastInDim S4096x1 ![] bcast_S_S4096x1 (constant S_ .f32 0x45000000#32))

/-- Each row less its mean. -/
def centred (x : FVec F S4096x2048 .f32) : FVec F S4096x2048 .f32 :=
  subf x (broadcastInDim S4096x2048 ![0, 1] bcast_S4096x1_S4096x2048_0_1 (rowMean x))

/-- The layer norm of each row. -/
def layerNorm (x : FVec F S4096x2048 .f32) (g b : FVec F S2048 .f32) : FVec F S4096x2048 .f32 :=
  addf (mulf (Host.divf (centred x)
      (broadcastInDim S4096x2048 ![0, 1] bcast_S4096x1_S4096x2048_0_1
        (Host.sqrt (addf (rowMean (mulf (centred x) (centred x)))
          (broadcastInDim S4096x1 ![] bcast_S_S4096x1 (constant S_ .f32 0x3727C5AC#32))))))
      (broadcastInDim S4096x2048 ![0, 1] bcast_S1x2048_S4096x2048_0_1 (broadcastInDim S1x2048 ![1] bcast_S2048_S1x2048_1 g)))
    (broadcastInDim S4096x2048 ![0, 1] bcast_S1x2048_S4096x2048_0_1 (broadcastInDim S1x2048 ![1] bcast_S2048_S1x2048_1 b))

/-- The expert with the largest score, token by token. -/
def experts (x : FVec F S4096x2048 .f32) (e : FVec F S16x2048 .f32) (g b : FVec F S2048 .f32) : IVec S4096 32 :=
  fun j => (Host.argReduce reducer_argmax_f32_i32
    (Host.dotGeneral dot_S4096x2048_S2048x16_S4096x16_1_0_0_1_n_n none (layerNorm x g b)
      (transpose S2048x16 [1, 0] e transposes_S16x2048_S2048x16_1_0))
    (iotaInDim S4096x16 32 1) (constant S_ .f32 0xFF800000#32) (constantI S_ 32 0#32)
    reducesTo_S4096x16_S4096_d1 h_S_ j).2

/-- The positions of `k` in a stable ascending order. -/
def argsort (k : IVec S4096 32) : IVec S4096 32 :=
  (Host.sort2 S4096 0 comparator_i32_i32_d0 k (iotaInDim S4096 32 0)).2

/-- The array that holds `p` at the place that `i p` names: the inverse of a permutation. -/
def inverse (i : IVec S4096 32) : IVec S4096 32 :=
  Host.scatter scatter_S4096_S4096x1_S4096_n_0_0_1 (fun _ b => b)
    (broadcastInDim S4096 ![] bcast_S_S4096 (constantI S_ 32 0#32)) (column (wrap i)) (iotaInDim S4096 32 0)

/-- The feed-forward layer on each row, with its residual. -/
def ffn (x : FVec F S4096x2048 .f32) (g b : FVec F S2048 .f32) (w1 : FVec F S2048x8192 .f32) (b1 : FVec F S8192 .f32)
    (w2 : FVec F S8192x2048 .f32) (b2 : FVec F S2048 .f32) : FVec F S4096x2048 .f32 :=
  addf (addf x
      (Host.dotGeneral dot_S4096x8192_S8192x2048_S4096x2048_1_0_0_1_n_n none
        (maximumf
          (addf (Host.dotGeneral dot_S4096x2048_S2048x8192_S4096x8192_1_0_0_1_n_n none (layerNorm x g b) w1)
            (broadcastInDim S4096x8192 ![0, 1] bcast_S1x8192_S4096x8192_0_1 (broadcastInDim S1x8192 ![1] bcast_S8192_S1x8192_1 b1)))
          (broadcastInDim S4096x8192 ![] bcast_S_S4096x8192 (constant S_ .f32 0x00000000#32)))
        w2))
    (broadcastInDim S4096x2048 ![0, 1] bcast_S1x2048_S4096x2048_0_1 (broadcastInDim S1x2048 ![1] bcast_S2048_S1x2048_1 b2))

/-- The tokens, shuffled by the identity. -/
def tokens (X : FVec F S2x2048x2048 .f32) : FVec F S4096x2048 .f32 :=
  takeRows (shapeCast S4096x2048 X shapeCasts_S2x2048x2048_S4096x2048) (iotaInDim S4096 32 0)

/-- The order in which the tokens are dispatched. -/
def order (X : FVec F S2x2048x2048 .f32) (e : FVec F S16x2048 .f32) (g b : FVec F S2048 .f32) : IVec S4096 32 :=
  argsort (experts (tokens X) e g b)

/-- The reference's result: dispatch, feed-forward, and the way back. -/
def result (X : FVec F S2x2048x2048 .f32) (e : FVec F S16x2048 .f32) (g b : FVec F S2048 .f32)
    (w1 : FVec F S2048x8192 .f32) (b1 : FVec F S8192 .f32) (w2 : FVec F S8192x2048 .f32) (b2 : FVec F S2048 .f32) :
    FVec F S2x2048x2048 .f32 :=
  shapeCast S2x2048x2048
    (takeRows (takeRows (ffn (takeRows (tokens X) (order X e g b)) g b w1 b1 w2 b2) (inverse (order X e g b)))
      (inverse (iotaInDim S4096 32 0)))
    shapeCasts_S4096x2048_S2x2048x2048

end Cert.ReferenceIdeal.Term
-- ==== Proof.RefOps.lean ====
/- The reference's host operations, in segments, and what each segment leaves in its result buffer. -/
module

public import proofs.«01_k».proof.Proof.RefTerm

@[expose] public section

set_option maxRecDepth 16384

noncomputable section

open Idealize.ShloMosaic Idealize.ShloMosaic.TcCoe Idealize.SL.Sem

namespace Cert.ReferenceIdeal.Term

open Cert.ReferenceIdeal Cert.ReferenceIdeal.Gen Idealize.ShloMosaic.StableHlo

variable {F : FTy → Type} [FloatOps F]

/-- The operations of one take, over its operands and its buffers. -/
def takeOps (arg0 : StableHlo.TRef sig ⟨S4096x2048, .f32⟩) (arg1 : StableHlo.TRef sig ⟨S4096, .i32⟩) (φ : fn_take.Bufs) : List (HloOp τ sig (Elt F)) :=
  [StableHlo.TRef.nullary φ.c (constantI S_ 32 0#32),
   StableHlo.TRef.unary φ.c φ.v0 (broadcastInDim S4096 ![] bcast_S_S4096),
   StableHlo.TRef.binary arg1 φ.v0 φ.v1 (cmpi .slt),
   StableHlo.TRef.nullary φ.c_0 (constantI S_ 32 4096#32),
   StableHlo.TRef.unary φ.c_0 φ.v2 (broadcastInDim S4096 ![] bcast_S_S4096),
   StableHlo.TRef.binary arg1 φ.v2 φ.v3 addi,
   StableHlo.TRef.ternary φ.v1 φ.v3 arg1 φ.call0.v0 select,
   StableHlo.TRef.unary φ.call0.v0 φ.v5 (broadcastInDim S4096x1 ![0] bcast_S4096_S4096x1_0),
   StableHlo.TRef.nullary φ.c_1 (constantI S1 32 4095#32),
   StableHlo.TRef.nullary φ.c_2 (constantI S_ 32 0#32),
   StableHlo.TRef.unary φ.c_2 φ.v6 (broadcastInDim S4096x1 ![] bcast_S_S4096x1),
   StableHlo.TRef.binary φ.v5 φ.v6 φ.v7 (cmpi .sge),
   StableHlo.TRef.unary φ.c_1 φ.v8 (broadcastInDim S1x1 ![1] bcast_S1_S1x1_1),
   StableHlo.TRef.unary φ.v8 φ.v9 (broadcastInDim S4096x1 ![0, 1] bcast_S1x1_S4096x1_0_1),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S4096x1_S4096_d1 h_S_),
   StableHlo.TRef.binary arg0 φ.v5 φ.v13 (fun x i => Host.gather gather_S4096x2048_S4096x1_S4096x2048_1_0_n_n_0_1_12048 x i),
   StableHlo.TRef.unary φ.v12 φ.v14 (broadcastInDim S4096x2048 ![0] bcast_S4096_S4096x2048_0),
   StableHlo.TRef.nullary φ.cst (constant S_ .f32 0x7FC00000#32),
   StableHlo.TRef.unary φ.cst φ.v15 (broadcastInDim S4096x2048 ![] bcast_S_S4096x2048),
   StableHlo.TRef.ternary φ.v14 φ.v13 φ.v15 φ.v16 select]

/-- The operations of the argmax. -/
def argmaxOps (arg0 : StableHlo.TRef sig ⟨S4096x16, .f32⟩) (φ : fn_argmax.Bufs) : List (HloOp τ sig (Elt F)) :=
  [StableHlo.TRef.nullary φ.v0 (iotaInDim S4096x16 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S4096x16_S4096_d1 h_S_ j).1),
   StableHlo.TRef.quaternary arg0 φ.v0 φ.cst φ.c φ.v1_1 (fun x y u v j => (Host.argReduce reducer_argmax_f32_i32 x y u v reducesTo_S4096x16_S4096_d1 h_S_ j).2)]

/-- The operations of the argsort. -/
def argsortOps (arg0 : StableHlo.TRef sig ⟨S4096, .i32⟩) (φ : fn_argsort.Bufs) : List (HloOp τ sig (Elt F)) :=
  [StableHlo.TRef.nullary φ.v0 (iotaInDim S4096 32 0),
   StableHlo.TRef.binary arg0 φ.v0 φ.v1_0 (fun x y => (Host.sort2 S4096 0 comparator_i32_i32_d0 x y).1),
   StableHlo.TRef.binary arg0 φ.v0 φ.v1_1 (fun x y => (Host.sort2 S4096 0 comparator_i32_i32_d0 x y).2)]

/-- The operations of the rectifier. -/
def reluOps (arg0 : StableHlo.TRef sig ⟨S4096x8192, .f32⟩) (φ : fn_relu.Bufs) : List (HloOp τ sig (Elt F)) :=
  [StableHlo.TRef.nullary φ.cst (constant S_ .f32 0x00000000#32),
   StableHlo.TRef.unary φ.cst φ.v0 (broadcastInDim S4096x8192 ![] bcast_S_S4096x8192),
   StableHlo.TRef.binary arg0 φ.v0 φ.v1 maximumf]

/-- The tokens as rows, and the identity order. -/
def openOps : List (HloOp τ sig (Elt F)) :=
  [StableHlo.reshape main_arg0 main_v0 (rfl : (.f32 : EltTy) = .f32) shapeCasts_S2x2048x2048_S4096x2048,
   StableHlo.nullary main_v1 (iotaInDim S4096 32 0)]

/-- The first layer norm. -/
def norm1Ops : List (HloOp τ sig (Elt F)) :=
  [StableHlo.nullary main_cst (constant S_ .f32 0x00000000#32),
   StableHlo.binary main_v2 main_cst main_v3 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
   StableHlo.unary main_v3 main_v4 (broadcastInDim S4096x1 ![0] bcast_S4096_S4096x1_0 : (⟨S4096, .f32⟩ : BufTy).Contents (Elt F) → (⟨S4096x1, .f32⟩ : BufTy).Contents (Elt F)),
   StableHlo.nullary main_cst_0 (constant S_ .f32 0x45000000#32),
   StableHlo.unary main_cst_0 main_v5 (broadcastInDim S4096x1 ![] bcast_S_S4096x1 : (⟨S_, .f32⟩ : BufTy).Contents (Elt F) → (⟨S4096x1, .f32⟩ : BufTy).Contents (Elt F)),
   StableHlo.binary main_v4 main_v5 main_v6 (Host.divf : (⟨S4096x1, .f32⟩ : BufTy).Contents (Elt F) → (⟨S4096x1, .f32⟩ : BufTy).Contents (Elt F) → (⟨S4096x1, .f32⟩ : BufTy).Contents (Elt F)),
   StableHlo.unary main_v6 main_v7 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v2 main_v7 main_v8 (subf : (⟨S4096x2048, .f32⟩ : BufTy).Contents (Elt F) → (⟨S4096x2048, .f32⟩ : BufTy).Contents (Elt F) → (⟨S4096x2048, .f32⟩ : BufTy).Contents (Elt F)),
   StableHlo.binary main_v8 main_v8 main_v9 (mulf : (⟨S4096x2048, .f32⟩ : BufTy).Contents (Elt F) → (⟨S4096x2048, .f32⟩ : BufTy).Contents (Elt F) → (⟨S4096x2048, .f32⟩ : BufTy).Contents (Elt F)),
   StableHlo.nullary main_cst_1 (constant S_ .f32 0x00000000#32),
   StableHlo.binary main_v9 main_cst_1 main_v10 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
   StableHlo.unary main_v10 main_v11 (broadcastInDim S4096x1 ![0] bcast_S4096_S4096x1_0 : (⟨S4096, .f32⟩ : BufTy).Contents (Elt F) → (⟨S4096x1, .f32⟩ : BufTy).Contents (Elt F)),
   StableHlo.nullary main_cst_2 (constant S_ .f32 0x45000000#32),
   StableHlo.unary main_cst_2 main_v12 (broadcastInDim S4096x1 ![] bcast_S_S4096x1 : (⟨S_, .f32⟩ : BufTy).Contents (Elt F) → (⟨S4096x1, .f32⟩ : BufTy).Contents (Elt F)),
   StableHlo.binary main_v11 main_v12 main_v13 (Host.divf : (⟨S4096x1, .f32⟩ : BufTy).Contents (Elt F) → (⟨S4096x1, .f32⟩ : BufTy).Contents (Elt F) → (⟨S4096x1, .f32⟩ : BufTy).Contents (Elt F)),
   StableHlo.unary main_v6 main_v14 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v2 main_v14 main_v15 (subf : (⟨S4096x2048, .f32⟩ : BufTy).Contents (Elt F) → (⟨S4096x2048, .f32⟩ : BufTy).Contents (Elt F) → (⟨S4096x2048, .f32⟩ : BufTy).Contents (Elt F)),
   StableHlo.nullary main_cst_3 (constant S_ .f32 0x3727C5AC#32),
   StableHlo.unary main_cst_3 main_v16 (broadcastInDim S4096x1 ![] bcast_S_S4096x1 : (⟨S_, .f32⟩ : BufTy).Contents (Elt F) → (⟨S4096x1, .f32⟩ : BufTy).Contents (Elt F)),
   StableHlo.binary main_v13 main_v16 main_v17 (addf : (⟨S4096x1, .f32⟩ : BufTy).Contents (Elt F) → (⟨S4096x1, .f32⟩ : BufTy).Contents (Elt F) → (⟨S4096x1, .f32⟩ : BufTy).Contents (Elt F)),
   StableHlo.unary main_v17 main_v18 (Host.sqrt : (⟨S4096x1, .f32⟩ : BufTy).Contents (Elt F) → (⟨S4096x1, .f32⟩ : BufTy).Contents (Elt F)),
   StableHlo.unary main_v18 main_v19 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v15 main_v19 main_v20 (Host.divf : (⟨S4096x2048, .f32⟩ : BufTy).Contents (Elt F) → (⟨S4096x2048, .f32⟩ : BufTy).Contents (Elt F) → (⟨S4096x2048, .f32⟩ : BufTy).Contents (Elt F)),
   StableHlo.unary main_arg2 main_v21 (broadcastInDim S1x2048 ![1] bcast_S2048_S1x2048_1 : (⟨S2048, .f32⟩ : BufTy).Contents (Elt F) → (⟨S1x2048, .f32⟩ : BufTy).Contents (Elt F)),
   StableHlo.unary main_v21 main_v22 (broadcastInDim S4096x2048 ![0, 1] bcast_S1x2048_S4096x2048_0_1 : (⟨S1x2048, .f32⟩ : BufTy).Contents (Elt F) → (⟨S4096x2048, .f32⟩ : BufTy).Contents (Elt F)),
   StableHlo.binary main_v20 main_v22 main_v23 (mulf : (⟨S4096x2048, .f32⟩ : BufTy).Contents (Elt F) → (⟨S4096x2048, .f32⟩ : BufTy).Contents (Elt F) → (⟨S4096x2048, .f32⟩ : BufTy).Contents (Elt F)),
   StableHlo.unary main_arg3 main_v24 (broadcastInDim S1x2048 ![1] bcast_S2048_S1x2048_1 : (⟨S2048, .f32⟩ : BufTy).Contents (Elt F) → (⟨S1x2048, .f32⟩ : BufTy).Contents (Elt F)),
   StableHlo.unary main_v24 main_v25 (broadcastInDim S4096x2048 ![0, 1] bcast_S1x2048_S4096x2048_0_1 : (⟨S1x2048, .f32⟩ : BufTy).Contents (Elt F) → (⟨S4096x2048, .f32⟩ : BufTy).Contents (Elt F)),
   StableHlo.binary main_v23 main_v25 main_v26 (addf : (⟨S4096x2048, .f32⟩ : BufTy).Contents (Elt F) → (⟨S4096x2048, .f32⟩ : BufTy).Contents (Elt F) → (⟨S4096x2048, .f32⟩ : BufTy).Contents (Elt F))]

/-- The scores of the experts. -/
def scoreOps : List (HloOp τ sig (Elt F)) :=
  [StableHlo.unary main_arg1 main_v27 ((transpose S2048x16 [1, 0] · transposes_S16x2048_S2048x16_1_0) : (⟨S16x2048, .f32⟩ : BufTy).Contents (Elt F) → (⟨S2048x16, .f32⟩ : BufTy).Contents (Elt F)),
   StableHlo.binary main_v26 main_v27 main_v28 ((fun l r => Host.dotGeneral dot_S4096x2048_S2048x16_S4096x16_1_0_0_1_n_n none l r) : (⟨S4096x2048, .f32⟩ : BufTy).Contents (Elt F) → (⟨S2048x16, .f32⟩ : BufTy).Contents (Elt F) → (⟨S4096x16, .f32⟩ : BufTy).Contents (Elt F))]

/-- The second layer norm. -/
def norm2Ops : List (HloOp τ sig (Elt F)) :=
  [StableHlo.nullary main_cst_4 (constant S_ .f32 0x00000000#32),
   StableHlo.binary main_v31 main_cst_4 main_v32 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
   StableHlo.unary main_v32 main_v33 (broadcastInDim S4096x1 ![0] bcast_S4096_S4096x1_0 : (⟨S4096, .f32⟩ : BufTy).Contents (Elt F) → (⟨S4096x1, .f32⟩ : BufTy).Contents (Elt F)),
   StableHlo.nullary main_cst_5 (constant S_ .f32 0x45000000#32),
   StableHlo.unary main_cst_5 main_v34 (broadcastInDim S4096x1 ![] bcast_S_S4096x1 : (⟨S_, .f32⟩ : BufTy).Contents (Elt F) → (⟨S4096x1, .f32⟩ : BufTy).Contents (Elt F)),
   StableHlo.binary main_v33 main_v34 main_v35 (Host.divf : (⟨S4096x1, .f32⟩ : BufTy).Contents (Elt F) → (⟨S4096x1, .f32⟩ : BufTy).Contents (Elt F) → (⟨S4096x1, .f32⟩ : BufTy).Contents (Elt F)),
   StableHlo.unary main_v35 main_v36 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v31 main_v36 main_v37 (subf : (⟨S4096x2048, .f32⟩ : BufTy).Contents (Elt F) → (⟨S4096x2048, .f32⟩ : BufTy).Contents (Elt F) → (⟨S4096x2048, .f32⟩ : BufTy).Contents (Elt F)),
   StableHlo.binary main_v37 main_v37 main_v38 (mulf : (⟨S4096x2048, .f32⟩ : BufTy).Contents (Elt F) → (⟨S4096x2048, .f32⟩ : BufTy).Contents (Elt F) → (⟨S4096x2048, .f32⟩ : BufTy).Contents (Elt F)),
   StableHlo.nullary main_cst_6 (constant S_ .f32 0x00000000#32),
   StableHlo.binary main_v38 main_cst_6 main_v39 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
   StableHlo.unary main_v39 main_v40 (broadcastInDim S4096x1 ![0] bcast_S4096_S4096x1_0 : (⟨S4096, .f32⟩ : BufTy).Contents (Elt F) → (⟨S4096x1, .f32⟩ : BufTy).Contents (Elt F)),
   StableHlo.nullary main_cst_7 (constant S_ .f32 0x45000000#32),
   StableHlo.unary main_cst_7 main_v41 (broadcastInDim S4096x1 ![] bcast_S_S4096x1 : (⟨S_, .f32⟩ : BufTy).Contents (Elt F) → (⟨S4096x1, .f32⟩ : BufTy).Contents (Elt F)),
   StableHlo.binary main_v40 main_v41 main_v42 (Host.divf : (⟨S4096x1, .f32⟩ : BufTy).Contents (Elt F) → (⟨S4096x1, .f32⟩ : BufTy).Contents (Elt F) → (⟨S4096x1, .f32⟩ : BufTy).Contents (Elt F)),
   StableHlo.unary main_v35 main_v43 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v31 main_v43 main_v44 (subf : (⟨S4096x2048, .f32⟩ : BufTy).Contents (Elt F) → (⟨S4096x2048, .f32⟩ : BufTy).Contents (Elt F) → (⟨S4096x2048, .f32⟩ : BufTy).Contents (Elt F)),
   StableHlo.nullary main_cst_8 (constant S_ .f32 0x3727C5AC#32),
   StableHlo.unary main_cst_8 main_v45 (broadcastInDim S4096x1 ![] bcast_S_S4096x1 : (⟨S_, .f32⟩ : BufTy).Contents (Elt F) → (⟨S4096x1, .f32⟩ : BufTy).Contents (Elt F)),
   StableHlo.binary main_v42 main_v45 main_v46 (addf : (⟨S4096x1, .f32⟩ : BufTy).Contents (Elt F) → (⟨S4096x1, .f32⟩ : BufTy).Contents (Elt F) → (⟨S4096x1, .f32⟩ : BufTy).Contents (Elt F)),
   StableHlo.unary main_v46 main_v47 (Host.sqrt : (⟨S4096x1, .f32⟩ : BufTy).Contents (Elt F) → (⟨S4096x1, .f32⟩ : BufTy).Contents (Elt F)),
   StableHlo.unary main_v47 main_v48 (broadcastInDim S4096x2048 ![0, 1] bcast_S4096x1_S4096x2048_0_1 : (⟨S4096x1, .f32⟩ : BufTy).Contents (Elt F) → (⟨S4096x2048, .f32⟩ : BufTy).Contents (Elt F)),
   StableHlo.binary main_v44 main_v48 main_v49 (Host.divf : (⟨S4096x2048, .f32⟩ : BufTy).Contents (Elt F) → (⟨S4096x2048, .f32⟩ : BufTy).Contents (Elt F) → (⟨S4096x2048, .f32⟩ : BufTy).Contents (Elt F)),
   StableHlo.unary main_arg2 main_v50 (broadcastInDim S1x2048 ![1] bcast_S2048_S1x2048_1 : (⟨S2048, .f32⟩ : BufTy).Contents (Elt F) → (⟨S1x2048, .f32⟩ : BufTy).Contents (Elt F)),
   StableHlo.unary main_v50 main_v51 (broadcastInDim S4096x2048 ![0, 1] bcast_S1x2048_S4096x2048_0_1 : (⟨S1x2048, .f32⟩ : BufTy).Contents (Elt F) → (⟨S4096x2048, .f32⟩ : BufTy).Contents (Elt F)),
   StableHlo.binary main_v49 main_v51 main_v52 (mulf : (⟨S4096x2048, .f32⟩ : BufTy).Contents (Elt F) → (⟨S4096x2048, .f32⟩ : BufTy).Contents (Elt F) → (⟨S4096x2048, .f32⟩ : BufTy).Contents (Elt F)),
   StableHlo.unary main_arg3 main_v53 (broadcastInDim S1x2048 ![1] bcast_S2048_S1x2048_1 : (⟨S2048, .f32⟩ : BufTy).Contents (Elt F) → (⟨S1x2048, .f32⟩ : BufTy).Contents (Elt F)),
   StableHlo.unary main_v53 main_v54 (broadcastInDim S4096x2048 ![0, 1] bcast_S1x2048_S4096x2048_0_1 : (⟨S1x2048, .f32⟩ : BufTy).Contents (Elt F) → (⟨S4096x2048, .f32⟩ : BufTy).Contents (Elt F)),
   StableHlo.binary main_v52 main_v54 main_v55 (addf : (⟨S4096x2048, .f32⟩ : BufTy).Contents (Elt F) → (⟨S4096x2048, .f32⟩ : BufTy).Contents (Elt F) → (⟨S4096x2048, .f32⟩ : BufTy).Contents (Elt F))]

/-- The hidden layer before its rectifier. -/
def hiddenOps : List (HloOp τ sig (Elt F)) :=
  [StableHlo.binary main_v55 main_arg4 main_v56 ((fun l r => Host.dotGeneral dot_S4096x2048_S2048x8192_S4096x8192_1_0_0_1_n_n none l r) : (⟨S4096x2048, .f32⟩ : BufTy).Contents (Elt F) → (⟨S2048x8192, .f32⟩ : BufTy).Contents (Elt F) → (⟨S4096x8192, .f32⟩ : BufTy).Contents (Elt F)),
   StableHlo.unary main_arg5 main_v57 (broadcastInDim S1x8192 ![1] bcast_S8192_S1x8192_1 : (⟨S8192, .f32⟩ : BufTy).Contents (Elt F) → (⟨S1x8192, .f32⟩ : BufTy).Contents (Elt F)),
   StableHlo.unary main_v57 main_v58 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v56 main_v58 main_v59 (addf : (⟨S4096x8192, .f32⟩ : BufTy).Contents (Elt F) → (⟨S4096x8192, .f32⟩ : BufTy).Contents (Elt F) → (⟨S4096x8192, .f32⟩ : BufTy).Contents (Elt F))]

/-- The output layer with the residual. -/
def outOps : List (HloOp τ sig (Elt F)) :=
  [StableHlo.binary main_v60 main_arg6 main_v61 ((fun l r => Host.dotGeneral dot_S4096x8192_S8192x2048_S4096x2048_1_0_0_1_n_n none l r) : (⟨S4096x8192, .f32⟩ : BufTy).Contents (Elt F) → (⟨S8192x2048, .f32⟩ : BufTy).Contents (Elt F) → (⟨S4096x2048, .f32⟩ : BufTy).Contents (Elt F)),
   StableHlo.binary main_v31 main_v61 main_v62 (addf : (⟨S4096x2048, .f32⟩ : BufTy).Contents (Elt F) → (⟨S4096x2048, .f32⟩ : BufTy).Contents (Elt F) → (⟨S4096x2048, .f32⟩ : BufTy).Contents (Elt F)),
   StableHlo.unary main_arg7 main_v63 (broadcastInDim S1x2048 ![1] bcast_S2048_S1x2048_1 : (⟨S2048, .f32⟩ : BufTy).Contents (Elt F) → (⟨S1x2048, .f32⟩ : BufTy).Contents (Elt F)),
   StableHlo.unary main_v63 main_v64 (broadcastInDim S4096x2048 ![0, 1] bcast_S1x2048_S4096x2048_0_1 : (⟨S1x2048, .f32⟩ : BufTy).Contents (Elt F) → (⟨S4096x2048, .f32⟩ : BufTy).Contents (Elt F)),
   StableHlo.binary main_v62 main_v64 main_v65 (addf : (⟨S4096x2048, .f32⟩ : BufTy).Contents (Elt F) → (⟨S4096x2048, .f32⟩ : BufTy).Contents (Elt F) → (⟨S4096x2048, .f32⟩ : BufTy).Contents (Elt F))]

/-- The inverse of the dispatch order. -/
def inverse1Ops : List (HloOp τ sig (Elt F)) :=
  [StableHlo.nullary main_c (constantI S_ 32 0#32),
   StableHlo.unary main_c main_v66 (broadcastInDim S4096 ![] bcast_S_S4096 : (⟨S_, .i32⟩ : BufTy).Contents (Elt F) → (⟨S4096, .i32⟩ : BufTy).Contents (Elt F)),
   StableHlo.nullary main_v67 (iotaInDim S4096 32 0),
   StableHlo.nullary main_c_9 (constantI S_ 32 0#32),
   StableHlo.unary main_c_9 main_v68 (broadcastInDim S4096 ![] bcast_S_S4096 : (⟨S_, .i32⟩ : BufTy).Contents (Elt F) → (⟨S4096, .i32⟩ : BufTy).Contents (Elt F)),
   StableHlo.binary main_v30 main_v68 main_v69 (cmpi .slt : (⟨S4096, .i32⟩ : BufTy).Contents (Elt F) → (⟨S4096, .i32⟩ : BufTy).Contents (Elt F) → (⟨S4096, .i1⟩ : BufTy).Contents (Elt F)),
   StableHlo.nullary main_c_10 (constantI S_ 32 4096#32),
   StableHlo.unary main_c_10 main_v70 (broadcastInDim S4096 ![] bcast_S_S4096 : (⟨S_, .i32⟩ : BufTy).Contents (Elt F) → (⟨S4096, .i32⟩ : BufTy).Contents (Elt F)),
   StableHlo.binary main_v30 main_v70 main_v71 (addi : (⟨S4096, .i32⟩ : BufTy).Contents (Elt F) → (⟨S4096, .i32⟩ : BufTy).Contents (Elt F) → (⟨S4096, .i32⟩ : BufTy).Contents (Elt F)),
   StableHlo.ternary main_v69 main_v71 main_v30 main_v72 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.unary main_v72 main_v73 (broadcastInDim S4096x1 ![0] bcast_S4096_S4096x1_0 : (⟨S4096, .i32⟩ : BufTy).Contents (Elt F) → (⟨S4096x1, .i32⟩ : BufTy).Contents (Elt F)),
   StableHlo.ternary main_v66 main_v73 main_v67 main_v74 ((fun x i u => Host.scatter scatter_S4096_S4096x1_S4096_n_0_0_1 (fun _ b => b) x i u) : (⟨S4096, .i32⟩ : BufTy).Contents (Elt F) → (⟨S4096x1, .i32⟩ : BufTy).Contents (Elt F) → (⟨S4096, .i32⟩ : BufTy).Contents (Elt F) → (⟨S4096, .i32⟩ : BufTy).Contents (Elt F))]

/-- The inverse of the identity order. -/
def inverse2Ops : List (HloOp τ sig (Elt F)) :=
  [StableHlo.nullary main_c_11 (constantI S_ 32 0#32),
   StableHlo.unary main_c_11 main_v76 (broadcastInDim S4096 ![] bcast_S_S4096 : (⟨S_, .i32⟩ : BufTy).Contents (Elt F) → (⟨S4096, .i32⟩ : BufTy).Contents (Elt F)),
   StableHlo.nullary main_v77 (iotaInDim S4096 32 0),
   StableHlo.nullary main_c_12 (constantI S_ 32 0#32),
   StableHlo.unary main_c_12 main_v78 (broadcastInDim S4096 ![] bcast_S_S4096 : (⟨S_, .i32⟩ : BufTy).Contents (Elt F) → (⟨S4096, .i32⟩ : BufTy).Contents (Elt F)),
   StableHlo.binary main_v1 main_v78 main_v79 (cmpi .slt : (⟨S4096, .i32⟩ : BufTy).Contents (Elt F) → (⟨S4096, .i32⟩ : BufTy).Contents (Elt F) → (⟨S4096, .i1⟩ : BufTy).Contents (Elt F)),
   StableHlo.nullary main_c_13 (constantI S_ 32 4096#32),
   StableHlo.unary main_c_13 main_v80 (broadcastInDim S4096 ![] bcast_S_S4096 : (⟨S_, .i32⟩ : BufTy).Contents (Elt F) → (⟨S4096, .i32⟩ : BufTy).Contents (Elt F)),
   StableHlo.binary main_v1 main_v80 main_v81 (addi : (⟨S4096, .i32⟩ : BufTy).Contents (Elt F) → (⟨S4096, .i32⟩ : BufTy).Contents (Elt F) → (⟨S4096, .i32⟩ : BufTy).Contents (Elt F)),
   StableHlo.ternary main_v79 main_v81 main_v1 main_v82 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.unary main_v82 main_v83 (broadcastInDim S4096x1 ![0] bcast_S4096_S4096x1_0 : (⟨S4096, .i32⟩ : BufTy).Contents (Elt F) → (⟨S4096x1, .i32⟩ : BufTy).Contents (Elt F)),
   StableHlo.ternary main_v76 main_v83 main_v77 main_v84 ((fun x i u => Host.scatter scatter_S4096_S4096x1_S4096_n_0_0_1 (fun _ b => b) x i u) : (⟨S4096, .i32⟩ : BufTy).Contents (Elt F) → (⟨S4096x1, .i32⟩ : BufTy).Contents (Elt F) → (⟨S4096, .i32⟩ : BufTy).Contents (Elt F) → (⟨S4096, .i32⟩ : BufTy).Contents (Elt F))]

/-- The result in its shape. -/
def closeOps : List (HloOp τ sig (Elt F)) :=
  [StableHlo.reshape main_v85 main_v86 (rfl : (.f32 : EltTy) = .f32) shapeCasts_S4096x2048_S2x2048x2048]

/-- What the opening leaves: the tokens as rows. -/
theorem open_rows (V : Valuation τ sig (Elt F)) : after openOps V (Proc.devRef .tc main_v0)
    = shapeCast S4096x2048 (V (Proc.devRef .tc main_arg0)) shapeCasts_S2x2048x2048_S4096x2048 := by
  unfold openOps; after_results_simp; rfl

/-- What the opening leaves: the identity order. -/
theorem open_iota (V : Valuation τ sig (Elt F)) : after openOps V (Proc.devRef .tc main_v1) = iotaInDim S4096 32 0 := by
  unfold openOps; after_results_simp

/-- The first take. -/
theorem take0 (V : Valuation τ sig (Elt F)) : after (takeOps (.of main_v0) (.of main_v1) main_call0) V (Proc.devRef .tc main_v2)
    = takeRows (F := F) (V (Proc.devRef .tc main_v0)) (V (Proc.devRef .tc main_v1)) := by
  unfold takeOps; after_results_simp; rfl

/-- The first layer norm. -/
theorem norm1 (V : Valuation τ sig (Elt F)) : after norm1Ops V (Proc.devRef .tc main_v26)
    = layerNorm (F := F) (V (Proc.devRef .tc main_v2)) (V (Proc.devRef .tc main_arg2)) (V (Proc.devRef .tc main_arg3)) := by
  unfold norm1Ops; after_results_simp; rfl

/-- Segment 0 of the line writes none but its own buffers. -/
theorem keep0 (V : Valuation τ sig (Elt F)) {r : Ref sig .tc} (h : r ∉ [main_v0, main_v1]) :
    after openOps V (Proc.devRef .tc r) = V (Proc.devRef .tc r) :=
  after_of_writes_sub _ V (forall_writes_sub_of_map rfl) h

/-- Segment 1 of the line writes none but its own buffers. -/
theorem keep1 (V : Valuation τ sig (Elt F)) {r : Ref sig .tc} (h : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2]) :
    after (takeOps (.of main_v0) (.of main_v1) main_call0) V (Proc.devRef .tc r) = V (Proc.devRef .tc r) :=
  after_of_writes_sub _ V (forall_writes_sub_of_map rfl) h

/-- Segment 2 of the line writes none but its own buffers. -/
theorem keep2 (V : Valuation τ sig (Elt F)) {r : Ref sig .tc} (h : r ∉ [main_cst, main_v3, main_v4, main_cst_0, main_v5, main_v6, main_v7, main_v8, main_v9, main_cst_1, main_v10, main_v11, main_cst_2, main_v12, main_v13, main_v14, main_v15, main_cst_3, main_v16, main_v17, main_v18, main_v19, main_v20, main_v21, main_v22, main_v23, main_v24, main_v25, main_v26]) :
    after norm1Ops V (Proc.devRef .tc r) = V (Proc.devRef .tc r) :=
  after_of_writes_sub _ V (forall_writes_sub_of_map rfl) h

/-- Segment 3 of the line writes none but its own buffers. -/
theorem keep3 (V : Valuation τ sig (Elt F)) {r : Ref sig .tc} (h : r ∉ [main_v27, main_v28]) :
    after scoreOps V (Proc.devRef .tc r) = V (Proc.devRef .tc r) :=
  after_of_writes_sub _ V (forall_writes_sub_of_map rfl) h

/-- Segment 4 of the line writes none but its own buffers. -/
theorem keep4 (V : Valuation τ sig (Elt F)) {r : Ref sig .tc} (h : r ∉ [main_call1_v0, main_call1_cst, main_call1_c, main_call1_v1_0, main_v29]) :
    after (argmaxOps (.of main_v28) main_call1) V (Proc.devRef .tc r) = V (Proc.devRef .tc r) :=
  after_of_writes_sub _ V (forall_writes_sub_of_map rfl) h

/-- Segment 5 of the line writes none but its own buffers. -/
theorem keep5 (V : Valuation τ sig (Elt F)) {r : Ref sig .tc} (h : r ∉ [main_call2_v0, main_call2_v1_0, main_v30]) :
    after (argsortOps (.of main_v29) main_call2) V (Proc.devRef .tc r) = V (Proc.devRef .tc r) :=
  after_of_writes_sub _ V (forall_writes_sub_of_map rfl) h

/-- Segment 6 of the line writes none but its own buffers. -/
theorem keep6 (V : Valuation τ sig (Elt F)) {r : Ref sig .tc} (h : r ∉ [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v31]) :
    after (takeOps (.of main_v2) (.of main_v30) main_call3) V (Proc.devRef .tc r) = V (Proc.devRef .tc r) :=
  after_of_writes_sub _ V (forall_writes_sub_of_map rfl) h

/-- Segment 7 of the line writes none but its own buffers. -/
theorem keep7 (V : Valuation τ sig (Elt F)) {r : Ref sig .tc} (h : r ∉ [main_cst_4, main_v32, main_v33, main_cst_5, main_v34, main_v35, main_v36, main_v37, main_v38, main_cst_6, main_v39, main_v40, main_cst_7, main_v41, main_v42, main_v43, main_v44, main_cst_8, main_v45, main_v46, main_v47, main_v48, main_v49, main_v50, main_v51, main_v52, main_v53, main_v54, main_v55]) :
    after norm2Ops V (Proc.devRef .tc r) = V (Proc.devRef .tc r) :=
  after_of_writes_sub _ V (forall_writes_sub_of_map rfl) h

/-- Segment 8 of the line writes none but its own buffers. -/
theorem keep8 (V : Valuation τ sig (Elt F)) {r : Ref sig .tc} (h : r ∉ [main_v56, main_v57, main_v58, main_v59]) :
    after hiddenOps V (Proc.devRef .tc r) = V (Proc.devRef .tc r) :=
  after_of_writes_sub _ V (forall_writes_sub_of_map rfl) h

/-- Segment 9 of the line writes none but its own buffers. -/
theorem keep9 (V : Valuation τ sig (Elt F)) {r : Ref sig .tc} (h : r ∉ [main_call4_cst, main_call4_v0, main_v60]) :
    after (reluOps (.of main_v59) main_call4) V (Proc.devRef .tc r) = V (Proc.devRef .tc r) :=
  after_of_writes_sub _ V (forall_writes_sub_of_map rfl) h

/-- Segment 10 of the line writes none but its own buffers. -/
theorem keep10 (V : Valuation τ sig (Elt F)) {r : Ref sig .tc} (h : r ∉ [main_v61, main_v62, main_v63, main_v64, main_v65]) :
    after outOps V (Proc.devRef .tc r) = V (Proc.devRef .tc r) :=
  after_of_writes_sub _ V (forall_writes_sub_of_map rfl) h

/-- Segment 11 of the line writes none but its own buffers. -/
theorem keep11 (V : Valuation τ sig (Elt F)) {r : Ref sig .tc} (h : r ∉ [main_c, main_v66, main_v67, main_c_9, main_v68, main_v69, main_c_10, main_v70, main_v71, main_v72, main_v73, main_v74]) :
    after inverse1Ops V (Proc.devRef .tc r) = V (Proc.devRef .tc r) :=
  after_of_writes_sub _ V (forall_writes_sub_of_map rfl) h

/-- Segment 12 of the line writes none but its own buffers. -/
theorem keep12 (V : Valuation τ sig (Elt F)) {r : Ref sig .tc} (h : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v75]) :
    after (takeOps (.of main_v65) (.of main_v74) main_call5) V (Proc.devRef .tc r) = V (Proc.devRef .tc r) :=
  after_of_writes_sub _ V (forall_writes_sub_of_map rfl) h

/-- Segment 13 of the line writes none but its own buffers. -/
theorem keep13 (V : Valuation τ sig (Elt F)) {r : Ref sig .tc} (h : r ∉ [main_c_11, main_v76, main_v77, main_c_12, main_v78, main_v79, main_c_13, main_v80, main_v81, main_v82, main_v83, main_v84]) :
    after inverse2Ops V (Proc.devRef .tc r) = V (Proc.devRef .tc r) :=
  after_of_writes_sub _ V (forall_writes_sub_of_map rfl) h

/-- Segment 14 of the line writes none but its own buffers. -/
theorem keep14 (V : Valuation τ sig (Elt F)) {r : Ref sig .tc} (h : r ∉ [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v85]) :
    after (takeOps (.of main_v75) (.of main_v84) main_call6) V (Proc.devRef .tc r) = V (Proc.devRef .tc r) :=
  after_of_writes_sub _ V (forall_writes_sub_of_map rfl) h

/-- Segment 15 of the line writes none but its own buffers. -/
theorem keep15 (V : Valuation τ sig (Elt F)) {r : Ref sig .tc} (h : r ∉ [main_v86]) :
    after closeOps V (Proc.devRef .tc r) = V (Proc.devRef .tc r) :=
  after_of_writes_sub _ V (forall_writes_sub_of_map rfl) h

/-- The scores. -/
theorem score (V : Valuation τ sig (Elt F)) : after scoreOps V (Proc.devRef .tc main_v28)
    = Host.dotGeneral (F := F) dot_S4096x2048_S2048x16_S4096x16_1_0_0_1_n_n none (V (Proc.devRef .tc main_v26)) (transpose S2048x16 [1, 0] (V (Proc.devRef .tc main_arg1)) transposes_S16x2048_S2048x16_1_0) := by
  unfold scoreOps; after_results_simp

/-- The experts. -/
theorem argmaxRead (V : Valuation τ sig (Elt F)) : after (argmaxOps (.of main_v28) main_call1) V (Proc.devRef .tc main_v29)
    = (fun j => (Host.argReduce (reducer_argmax_f32_i32 (F := F)) (V (Proc.devRef .tc main_v28)) (iotaInDim S4096x16 32 1) (constant S_ .f32 0xFF800000#32) (constantI S_ 32 0#32) reducesTo_S4096x16_S4096_d1 h_S_ j).2) := by
  unfold argmaxOps; after_results_simp; rfl

/-- The dispatch order. -/
theorem argsortRead (V : Valuation τ sig (Elt F)) : after (argsortOps (.of main_v29) main_call2) V (Proc.devRef .tc main_v30)
    = argsort (V (Proc.devRef .tc main_v29)) := by
  unfold argsortOps; after_results_simp; rfl

/-- The dispatched tokens. -/
theorem take3 (V : Valuation τ sig (Elt F)) : after (takeOps (.of main_v2) (.of main_v30) main_call3) V (Proc.devRef .tc main_v31)
    = takeRows (F := F) (V (Proc.devRef .tc main_v2)) (V (Proc.devRef .tc main_v30)) := by
  unfold takeOps; after_results_simp; rfl

/-- The second layer norm. -/
theorem norm2 (V : Valuation τ sig (Elt F)) : after norm2Ops V (Proc.devRef .tc main_v55)
    = layerNorm (F := F) (V (Proc.devRef .tc main_v31)) (V (Proc.devRef .tc main_arg2)) (V (Proc.devRef .tc main_arg3)) := by
  unfold norm2Ops; after_results_simp; rfl

/-- The hidden layer. -/
theorem hidden (V : Valuation τ sig (Elt F)) : after hiddenOps V (Proc.devRef .tc main_v59)
    = addf (Host.dotGeneral (F := F) dot_S4096x2048_S2048x8192_S4096x8192_1_0_0_1_n_n none (V (Proc.devRef .tc main_v55)) (V (Proc.devRef .tc main_arg4))) (broadcastInDim S4096x8192 ![0, 1] bcast_S1x8192_S4096x8192_0_1 (broadcastInDim S1x8192 ![1] bcast_S8192_S1x8192_1 (V (Proc.devRef .tc main_arg5)))) := by
  unfold hiddenOps; after_results_simp

/-- The rectified hidden layer. -/
theorem reluRead (V : Valuation τ sig (Elt F)) : after (reluOps (.of main_v59) main_call4) V (Proc.devRef .tc main_v60)
    = maximumf (F := F) (φ := .f32) (V (Proc.devRef .tc main_v59)) (broadcastInDim S4096x8192 ![] bcast_S_S4096x8192 (constant S_ .f32 0x00000000#32)) := by
  unfold reluOps; after_results_simp; rfl

/-- The output layer. -/
theorem outRead (V : Valuation τ sig (Elt F)) : after outOps V (Proc.devRef .tc main_v65)
    = addf (addf (V (Proc.devRef .tc main_v31)) (Host.dotGeneral (F := F) dot_S4096x8192_S8192x2048_S4096x2048_1_0_0_1_n_n none (V (Proc.devRef .tc main_v60)) (V (Proc.devRef .tc main_arg6)))) (broadcastInDim S4096x2048 ![0, 1] bcast_S1x2048_S4096x2048_0_1 (broadcastInDim S1x2048 ![1] bcast_S2048_S1x2048_1 (V (Proc.devRef .tc main_arg7)))) := by
  unfold outOps; after_results_simp

/-- The inverse of the dispatch order. -/
theorem inverse1 (V : Valuation τ sig (Elt F)) : after inverse1Ops V (Proc.devRef .tc main_v74)
    = inverse (V (Proc.devRef .tc main_v30)) := by
  unfold inverse1Ops; after_results_simp; rfl

/-- The rows brought back. -/
theorem take5 (V : Valuation τ sig (Elt F)) : after (takeOps (.of main_v65) (.of main_v74) main_call5) V (Proc.devRef .tc main_v75)
    = takeRows (F := F) (V (Proc.devRef .tc main_v65)) (V (Proc.devRef .tc main_v74)) := by
  unfold takeOps; after_results_simp; rfl

/-- The inverse of the identity order. -/
theorem inverse2 (V : Valuation τ sig (Elt F)) : after inverse2Ops V (Proc.devRef .tc main_v84)
    = inverse (V (Proc.devRef .tc main_v1)) := by
  unfold inverse2Ops; after_results_simp; rfl

/-- The rows unshuffled. -/
theorem take6 (V : Valuation τ sig (Elt F)) : after (takeOps (.of main_v75) (.of main_v84) main_call6) V (Proc.devRef .tc main_v85)
    = takeRows (F := F) (V (Proc.devRef .tc main_v75)) (V (Proc.devRef .tc main_v84)) := by
  unfold takeOps; after_results_simp; rfl

/-- The result. -/
theorem closeRead (V : Valuation τ sig (Elt F)) : after closeOps V (Proc.devRef .tc main_v86)
    = shapeCast S2x2048x2048 (V (Proc.devRef .tc main_v85)) shapeCasts_S4096x2048_S2x2048x2048 := by
  unfold closeOps; after_results_simp; rfl

end Cert.ReferenceIdeal.Term
-- ==== Proof.RefRun.lean ====
/- The reference runs, and its result buffer ends holding `Term.result` of its arguments. -/
module

public import proofs.«01_k».proof.Proof.RefOps
public import Idealize.ShloMosaic.Lib.Pipeline.Frame
public import Idealize.ShloMosaic.Lib.Quiescent

@[expose] public section

set_option maxRecDepth 16384

noncomputable section

open Idealize.ShloMosaic Idealize.ShloMosaic.TcCoe Idealize.SL.Sem

namespace Cert.ReferenceIdeal.Term

open Cert.ReferenceIdeal Cert.ReferenceIdeal.Gen Idealize.ShloMosaic.StableHlo

variable {F : FTy → Type} [FloatOps F]

/-- The reference's host operations, in order. -/
def line : List (HloOp τ sig (Elt F)) :=
  openOps ++ ((takeOps (.of main_v0) (.of main_v1) main_call0) ++ (norm1Ops ++ (scoreOps ++ ((argmaxOps (.of main_v28) main_call1) ++ ((argsortOps (.of main_v29) main_call2) ++ ((takeOps (.of main_v2) (.of main_v30) main_call3) ++ (norm2Ops ++ (hiddenOps ++ ((reluOps (.of main_v59) main_call4) ++ (outOps ++ (inverse1Ops ++ ((takeOps (.of main_v65) (.of main_v74) main_call5) ++ (inverse2Ops ++ ((takeOps (.of main_v75) (.of main_v84) main_call6) ++ (closeOps)))))))))))))))

/-- The result buffer after the whole line: `result` of what the argument buffers held. -/
theorem line_result (V : Valuation τ sig (Elt F)) : after line V (Proc.devRef .tc main_v86)
    = result (F := F) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  unfold line
  simp only [StableHlo.after_append]
  rw [closeRead]
  rw [take6]
  rw [keep13 (r := main_v75) _ (by decide), inverse2]
  rw [keep12 (r := main_v1) _ (by decide), take5]
  rw [keep11 (r := main_v1) _ (by decide), keep11 (r := main_v65) _ (by decide), inverse1]
  rw [keep10 (r := main_v1) _ (by decide), keep10 (r := main_v30) _ (by decide), outRead]
  rw [keep9 (r := main_arg6) _ (by decide), keep9 (r := main_arg7) _ (by decide), keep9 (r := main_v1) _ (by decide), keep9 (r := main_v30) _ (by decide), keep9 (r := main_v31) _ (by decide), reluRead]
  rw [keep8 (r := main_arg6) _ (by decide), keep8 (r := main_arg7) _ (by decide), keep8 (r := main_v1) _ (by decide), keep8 (r := main_v30) _ (by decide), keep8 (r := main_v31) _ (by decide), hidden]
  rw [keep7 (r := main_arg4) _ (by decide), keep7 (r := main_arg5) _ (by decide), keep7 (r := main_arg6) _ (by decide), keep7 (r := main_arg7) _ (by decide), keep7 (r := main_v1) _ (by decide), keep7 (r := main_v30) _ (by decide), keep7 (r := main_v31) _ (by decide), norm2]
  rw [keep6 (r := main_arg2) _ (by decide), keep6 (r := main_arg3) _ (by decide), keep6 (r := main_arg4) _ (by decide), keep6 (r := main_arg5) _ (by decide), keep6 (r := main_arg6) _ (by decide), keep6 (r := main_arg7) _ (by decide), keep6 (r := main_v1) _ (by decide), keep6 (r := main_v30) _ (by decide), take3]
  rw [keep5 (r := main_arg2) _ (by decide), keep5 (r := main_arg3) _ (by decide), keep5 (r := main_arg4) _ (by decide), keep5 (r := main_arg5) _ (by decide), keep5 (r := main_arg6) _ (by decide), keep5 (r := main_arg7) _ (by decide), keep5 (r := main_v1) _ (by decide), keep5 (r := main_v2) _ (by decide), argsortRead]
  rw [keep4 (r := main_arg2) _ (by decide), keep4 (r := main_arg3) _ (by decide), keep4 (r := main_arg4) _ (by decide), keep4 (r := main_arg5) _ (by decide), keep4 (r := main_arg6) _ (by decide), keep4 (r := main_arg7) _ (by decide), keep4 (r := main_v1) _ (by decide), keep4 (r := main_v2) _ (by decide), argmaxRead]
  rw [keep3 (r := main_arg2) _ (by decide), keep3 (r := main_arg3) _ (by decide), keep3 (r := main_arg4) _ (by decide), keep3 (r := main_arg5) _ (by decide), keep3 (r := main_arg6) _ (by decide), keep3 (r := main_arg7) _ (by decide), keep3 (r := main_v1) _ (by decide), keep3 (r := main_v2) _ (by decide), score]
  rw [keep2 (r := main_arg1) _ (by decide), keep2 (r := main_arg2) _ (by decide), keep2 (r := main_arg3) _ (by decide), keep2 (r := main_arg4) _ (by decide), keep2 (r := main_arg5) _ (by decide), keep2 (r := main_arg6) _ (by decide), keep2 (r := main_arg7) _ (by decide), keep2 (r := main_v1) _ (by decide), keep2 (r := main_v2) _ (by decide), norm1]
  rw [keep1 (r := main_arg1) _ (by decide), keep1 (r := main_arg2) _ (by decide), keep1 (r := main_arg3) _ (by decide), keep1 (r := main_arg4) _ (by decide), keep1 (r := main_arg5) _ (by decide), keep1 (r := main_arg6) _ (by decide), keep1 (r := main_arg7) _ (by decide), keep1 (r := main_v1) _ (by decide), take0]
  rw [keep0 (r := main_arg1) _ (by decide), keep0 (r := main_arg2) _ (by decide), keep0 (r := main_arg3) _ (by decide), keep0 (r := main_arg4) _ (by decide), keep0 (r := main_arg5) _ (by decide), keep0 (r := main_arg6) _ (by decide), keep0 (r := main_arg7) _ (by decide), open_rows, open_iota]
  rfl

/-- @main is that line. -/
theorem main_isSeq (d : Dev nD) : IsSeq (main (F := F) d) line := by
  unfold line
  hlo_seq

/-- The argument buffers. -/
def argRefs : List (Ref sig .tc) := [main_arg0, main_arg1, main_arg2, main_arg3, main_arg4, main_arg5, main_arg6, main_arg7]

/-- The line leaves the argument buffers alone. -/
theorem line_arg (V : Valuation τ sig (Elt F)) (r : Ref sig .tc) (hr : r ∈ argRefs) :
    after line V (Proc.devRef .tc r) = V (Proc.devRef .tc r) := by
  unfold line
  simp only [StableHlo.after_append]
  rw [keep15 _ ((by decide : ∀ r ∈ argRefs, r ∉ _) r hr)]
  rw [keep14 _ ((by decide : ∀ r ∈ argRefs, r ∉ _) r hr)]
  rw [keep13 _ ((by decide : ∀ r ∈ argRefs, r ∉ _) r hr)]
  rw [keep12 _ ((by decide : ∀ r ∈ argRefs, r ∉ _) r hr)]
  rw [keep11 _ ((by decide : ∀ r ∈ argRefs, r ∉ _) r hr)]
  rw [keep10 _ ((by decide : ∀ r ∈ argRefs, r ∉ _) r hr)]
  rw [keep9 _ ((by decide : ∀ r ∈ argRefs, r ∉ _) r hr)]
  rw [keep8 _ ((by decide : ∀ r ∈ argRefs, r ∉ _) r hr)]
  rw [keep7 _ ((by decide : ∀ r ∈ argRefs, r ∉ _) r hr)]
  rw [keep6 _ ((by decide : ∀ r ∈ argRefs, r ∉ _) r hr)]
  rw [keep5 _ ((by decide : ∀ r ∈ argRefs, r ∉ _) r hr)]
  rw [keep4 _ ((by decide : ∀ r ∈ argRefs, r ∉ _) r hr)]
  rw [keep3 _ ((by decide : ∀ r ∈ argRefs, r ∉ _) r hr)]
  rw [keep2 _ ((by decide : ∀ r ∈ argRefs, r ∉ _) r hr)]
  rw [keep1 _ ((by decide : ∀ r ∈ argRefs, r ∉ _) r hr)]
  rw [keep0 _ ((by decide : ∀ r ∈ argRefs, r ∉ _) r hr)]

/-- Every operation of the line touches buffers of the TensorCore only. -/
theorem line_bufs : (line (F := F)).Forall fun op => op.bufs ⊆ tcRefs τ sig := by
  simp [line, openOps, takeOps, norm1Ops, scoreOps, argmaxOps, argsortOps, norm2Ops, hiddenOps, reluOps, outOps, inverse1Ops, inverse2Ops, closeOps]

/-- No operation of the line allocates. -/
theorem line_fresh : ∀ op ∈ line (F := F), op.fresh = ∅ := by
  intro _ h
  (repeat (cases h with | head => rfl | tail _ h => ?_)); exact nomatch h

/-- From any memory the reference ends with its result at `result` of its arguments, its arguments unchanged and every
    semaphore at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v86) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine θ_run_mono (StableHlo.run_hlo (defs (F := F)) (main (F := F)) (ops := line) main_isSeq (by decide) (by decide) line_bufs line_fresh m g) ?_
  intro r h
  refine ⟨fun c => ⟨(h c main_v86).trans (line_result _), ?_, ?_, ?_, ?_, ?_, ?_, ?_, ?_⟩, sem_eq_zero_of_no_sems rfl _⟩
  all_goals exact (h c _).trans (line_arg _ _ (by decide))

end Cert.ReferenceIdeal.Term
-- ==== Proof.RefRoute.lean ====
/- Taking rows by a permutation, the permutation that a stable sort makes, and its inverse. -/
module

public import proofs.«01_k».proof.Proof.RefTerm
public import Idealize.ShloMosaic.Lib.Routing.OpsSet
public import Idealize.ShloMosaic.Lib.ReduceAll
public import Idealize.ShloMosaic.Lib.SortFacts
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

variable {F : FTy → Type} [FloatOps F]

/-- The vector of row numbers `i` spells the map `p` of the rows. -/
def Spells (i : IVec S4096 32) (p : Fin 4096 → Fin 4096) : Prop :=
  ∀ r : Fin 4096, i (ix1 r) = BitVec.ofNat 32 (p r).val

/-- A row number in the array is not negative, so wrapping leaves it. -/
theorem wrap_spells {i : IVec S4096 32} {p : Fin 4096 → Fin 4096} (h : Spells i p) : Spells (wrap i) p := by
  intro r
  show Scalar.select (IntOp.cmpi .slt (i (ix1 r)) 0#32) (IntOp.addi (i (ix1 r)) 4096#32) (i (ix1 r)) = _
  have hlt := (p r).isLt
  have hs : (BitVec.ofNat 32 (p r).val).slt 0#32 = false := by
    rw [BitVec.slt, StableHlo.Predicate.toInt_ofNat_small _ (by omega)]
    exact decide_eq_false (by simp)
  rw [h r]
  show (if BitVec.ofBool ((BitVec.ofNat 32 (p r).val).slt 0#32) = 1 then _ else _) = _
  rw [hs]
  exact if_neg (by decide)

/-- The column's entry. -/
theorem column_apply (i : IVec S4096 32) (r : Fin 4096) : column i (ix2 r (0 : Fin 1)) = i (ix1 r) := by
  unfold column broadcastInDim
  congr 1
  funext a
  match a with
  | ⟨0, _⟩ => rfl

/-- Every row number that spells a map of the rows lies inside the array. -/
theorem inside_spells {i : IVec S4096 32} {p : Fin 4096 → Fin 4096} (h : Spells i p) (j : S4096.Idx) : inside (column i) j = 1#1 := by
  refine Host.reduce_andi_one _ _ _ _ j rfl fun k => ?_
  obtain ⟨r, z, rfl⟩ : ∃ (r : Fin 4096) (z : Fin 1), k = ix2 r z := ⟨k 0, k 1, by funext a; match a with | ⟨0, _⟩ => rfl | ⟨1, _⟩ => rfl⟩
  have hz : z = 0 := Subsingleton.elim _ _
  subst hz
  have hlt := (p r).isLt
  show IntOp.andi (IntOp.cmpi .sge (column i (ix2 r (0 : Fin 1))) 0#32) (IntOp.cmpi .sle (column i (ix2 r (0 : Fin 1))) 4095#32) = 1#1
  rw [column_apply, h r]
  have h1 : (0#32).sle (BitVec.ofNat 32 (p r).val) = true := by
    have e0 : (0#32).toInt = 0 := by decide
    rw [BitVec.sle, e0, StableHlo.Predicate.toInt_ofNat_small _ (by omega)]
    exact decide_eq_true (by omega)
  have h2 : (BitVec.ofNat 32 (p r).val).sle 4095#32 = true := by
    rw [BitVec.sle, StableHlo.Predicate.toInt_ofNat_small _ (by omega)]
    exact decide_eq_true (by have : (4095#32).toInt = 4095 := by decide
                             rw [this]; omega)
  show BitVec.ofBool ((0#32).sle (BitVec.ofNat 32 (p r).val)) &&& BitVec.ofBool ((BitVec.ofNat 32 (p r).val).sle 4095#32) = 1#1
  rw [h1, h2]; rfl

/-- Taking by row numbers that spell `p` reads row `p r` into row `r`. -/
theorem takeRows_apply (x : FVec F S4096x2048 .f32) {i : IVec S4096 32} {p : Fin 4096 → Fin 4096} (h : Spells i p)
    (r : Fin 4096) (c : Fin 2048) : takeRows x i (ix2 r c) = x (ix2 (p r) c) := by
  show Scalar.select (inside (column (wrap i)) _) (Host.gather gather_S4096x2048_S4096x1_S4096x2048_1_0_n_n_0_1_12048 x (column (wrap i)) (ix2 r c)) _ = _
  rw [inside_spells (wrap_spells h)]
  refine (if_pos rfl).trans ?_
  exact Routing.gather_row _ rfl rfl rfl rfl rfl x _ r c (p r) ((column_apply _ r).trans (wrap_spells h r)) (by norm_num)

/-- The identity order spells the identity. -/
theorem iota_spells : Spells (iotaInDim S4096 32 0) id := fun _ => rfl

/-- A sort of pairs along a vector reads the second components through one self-map of the positions. -/
theorem sort2_snd {n : Nat} {α β : Type} (cmp : α × β → α × β → BitVec 1) (x : (⟨1, ![n]⟩ : Shape).Idx → α) (y : (⟨1, ![n]⟩ : Shape).Idx → β)
    (j : (⟨1, ![n]⟩ : Shape).Idx) : (Host.sort2 ⟨1, ![n]⟩ 0 cmp x y).2 j
      = y (Shape.Idx.ofFin (sortedFrom (fun a b => cmp (x (Shape.Idx.ofFin a), y (Shape.Idx.ofFin a)) (x (Shape.Idx.ofFin b), y (Shape.Idx.ofFin b)) == 1#1) (j 0))) := by
  unfold Host.sort2
  simp

/-- A vector that reads the identity order through a bijection spells a permutation. -/
theorem spells_of_read {i : IVec S4096 32} (f : Fin 4096 → Fin 4096) (hf : Function.Bijective f)
    (h : ∀ r, i (ix1 r) = iotaInDim S4096 32 0 (Shape.Idx.ofFin (f r))) : ∃ p : Equiv.Perm (Fin 4096), Spells i p :=
  ⟨Equiv.ofBijective f hf, fun r => h r⟩

/-- A stable sort's positions spell a permutation of the rows. -/
theorem argsort_spells (k : IVec S4096 32) : ∃ p : Equiv.Perm (Fin 4096), Spells (argsort k) p :=
  spells_of_read _ ⟨sortedFrom_injective _, sortedFrom_surjective _⟩ fun r => by
    unfold argsort
    exact sort2_snd comparator_i32_i32_d0 k (iotaInDim S4096 32 0) (ix1 r)

/-- Scattering the positions to the places that spell a permutation spells its inverse. -/
theorem inverse_spells {i : IVec S4096 32} {p : Equiv.Perm (Fin 4096)} (h : Spells i p) : Spells (inverse i) p.symm := by
  intro r
  let gi : Nat → Nat := fun n => if hn : n < 4096 then (p ⟨n, hn⟩).val else 0
  have hgi : ∀ q : Fin 4096, gi q.val = (p q).val := fun q => by simp [gi]
  have hg : ∀ q : Fin 4096, column (wrap i) (ix2 q (0 : Fin 1)) = BitVec.ofNat 32 (gi q.val) := fun q => by
    rw [column_apply, wrap_spells h q, hgi]
  refine (Routing.scatter_set scatter_S4096_S4096x1_S4096_n_0_0_1 rfl rfl rfl _ (column (wrap i)) (iotaInDim S4096 32 0) gi hg (fun q => ?_) r
    (BitVec.ofNat 32 (p.symm r).val) (fun q hq => ?_)).1 ⟨p.symm r, by rw [hgi, Equiv.apply_symm_apply]⟩
  · have := (p q).isLt
    rw [hgi]; omega
  · have hq' : p q = r := Fin.ext ((hgi q).symm.trans hq)
    rw [← hq', Equiv.symm_apply_apply]
    rfl

/-- Dispatching the rows and bringing them back restores them. -/
theorem there_and_back (y : FVec F S4096x2048 .f32) {i : IVec S4096 32} {p : Equiv.Perm (Fin 4096)} (h : Spells i p) (r : Fin 4096) (c : Fin 2048) :
    takeRows y (inverse i) (ix2 r c) = y (ix2 (p.symm r) c) :=
  takeRows_apply y (inverse_spells h) r c

end Cert.ReferenceIdeal.Term
-- ==== Proof.Row.lean ====
/- The layer on one row, over the extended reals: what both programs are compared with. -/
module

public import Idealize.ShloMosaic.PureOps.Ideal
public import Idealize.ShloMosaic.Lib.Pointwise
public import Idealize.ShloMosaic.Lib.Pipeline.ValueKit

@[expose] public section

noncomputable section

open Idealize.ShloMosaic

namespace Cert.Row

/-- The mean of a row of 2048 numbers. -/
def mean (x : Fin 2048 → EReal) : EReal := Ideal.div (∑ k, x k) (Ideal.ofBits .f32 0x45000000#32)

/-- A row less its mean, divided by the square root of its variance plus a small number. -/
def norm (x : Fin 2048 → EReal) (k : Fin 2048) : EReal :=
  Ideal.div (x k - mean x) (Ideal.sqrt (mean (fun j => (x j - mean x) * (x j - mean x)) + Ideal.ofBits .f32 0x3727C5AC#32))

/-- One hidden unit of the feed-forward layer on the scaled and shifted layer norm of a row. -/
def hidden (x g b : Fin 2048 → EReal) (w1 : Fin 2048 → Fin 8192 → EReal) (b1 : Fin 8192 → EReal) (f : Fin 8192) : EReal :=
  max (∑ k, (norm x k * g k + b k) * w1 k f + b1 f) 0

/-- One entry of the layer's row: the row, plus the hidden units against the second weights, plus the bias. -/
def out (x g b : Fin 2048 → EReal) (w1 : Fin 2048 → Fin 8192 → EReal) (b1 : Fin 8192 → EReal) (w2 : Fin 8192 → Fin 2048 → EReal)
    (b2 : Fin 2048 → EReal) (c : Fin 2048) : EReal :=
  x c + ∑ f, hidden x g b w1 b1 f * w2 f c + b2 c

/-- The layer's row without scale, shift and biases. -/
def plain (x : Fin 2048 → EReal) (w1 : Fin 2048 → Fin 8192 → EReal) (w2 : Fin 8192 → Fin 2048 → EReal) (c : Fin 2048) : EReal :=
  x c + ∑ f, max (∑ k, norm x k * w1 k f) 0 * w2 f c

/-- At scale one, shift zero and biases zero the layer's row is the plain one. -/
theorem out_fresh (x : Fin 2048 → EReal) (w1 : Fin 2048 → Fin 8192 → EReal) (w2 : Fin 8192 → Fin 2048 → EReal)
    {g b : Fin 2048 → EReal} {b1 : Fin 8192 → EReal} {b2 : Fin 2048 → EReal} (hg : ∀ k, g k = 1) (hb : ∀ k, b k = 0) (h1 : ∀ f, b1 f = 0)
    (h2 : ∀ k, b2 k = 0) (c : Fin 2048) : out x g b w1 b1 w2 b2 c = plain x w1 w2 c := by
  simp only [out, hidden, plain, hg, hb, h1, h2, mul_one, add_zero]

/-- A quantity that at the first point of each run of `J` points is `base + part`, and at every other point what the point
before left plus `part`, is at the run's last point the first point's `base` plus all the run's parts. -/
theorem run_sum {ι : Type} {N : ℕ} (f : (n : ℕ) → n < N → ι → EReal) (J : ℕ) [NeZero J] (base part : Fin N → ι → EReal)
    (h0 : ∀ t : Fin N, t.val % J = 0 → ∀ i, f t.val t.isLt i = base t i + part t i)
    (hs : ∀ t : Fin N, ¬t.val % J = 0 → ∀ i, f t.val t.isLt i = f (t.val - 1) (Nat.lt_of_le_of_lt (Nat.sub_le _ _) t.isLt) i + part t i)
    (t : Fin N) (hr : t.val % J = J - 1) (i : ι) :
    f t.val t.isLt i = base ⟨J * (t.val / J) + (0 : Fin J).val, Pipeline.run_point_lt_of_flush t hr 0⟩ i
      + ∑ s : Fin J, part ⟨J * (t.val / J) + s.val, Pipeline.run_point_lt_of_flush t hr s⟩ i := by
  rw [Pipeline.eq_sum_fin_of_reset_step_apply_of_flush f J (fun _ => 0) (fun t i => (if t.val % J = 0 then base t i else 0) + part t i)
    (fun t h i => by rw [h0 t h, if_pos h, zero_add]) (fun t h i => by rw [hs t h, if_neg h, zero_add]) t hr i, zero_add,
    Finset.sum_add_distrib]
  congr 1
  rw [Finset.sum_eq_single (0 : Fin J)]
  · rw [if_pos (by simp)]
  · intro s _ hne
    refine if_neg fun h => hne (Fin.ext ?_)
    simpa [Nat.mod_eq_of_lt s.isLt] using h
  · intro h
    exact absurd (Finset.mem_univ _) h

end Cert.Row
-- ==== Proof.RefValue.lean ====
/- What the reference's layers hold at an entry. -/
module

public import proofs.«01_k».proof.Proof.RefRoute
public import proofs.«01_k».proof.Proof.Row
public import Idealize.ShloMosaic.Lib.Pointwise

@[expose] public section

set_option maxRecDepth 16384

noncomputable section

open Idealize.ShloMosaic Idealize.ShloMosaic.TcCoe Idealize.SL.Sem

namespace Cert.ReferenceIdeal.Term

open Cert.ReferenceIdeal Cert.ReferenceIdeal.Gen

/-- The column of means. -/
theorem rowMean_apply (x : FVec Ideal S4096x2048 .f32) (r : Fin 4096) (z : Fin 1) :
    rowMean x (ix2 r z) = Row.mean fun k => x (ix2 r k) := by
  pointwise [rowMean]
  rfl

/-- A row less its mean. -/
theorem centred_apply (x : FVec Ideal S4096x2048 .f32) (r : Fin 4096) (c : Fin 2048) :
    centred x (ix2 r c) = x (ix2 r c) - Row.mean fun k => x (ix2 r k) := by
  pointwise [centred]
  rw [rowMean_apply]

/-- The layer norm of a row. -/
theorem layerNorm_apply (x : FVec Ideal S4096x2048 .f32) (g b : FVec Ideal S2048 .f32) (r : Fin 4096) (c : Fin 2048) :
    layerNorm x g b (ix2 r c) = Row.norm (fun k => x (ix2 r k)) c * g (ix1 c) + b (ix1 c) := by
  have hv : rowMean (mulf (centred x) (centred x)) (ix2 r (0 : Fin 1))
      = Row.mean fun k => (x (ix2 r k) - Row.mean fun k => x (ix2 r k)) * (x (ix2 r k) - Row.mean fun k => x (ix2 r k)) := by
    rw [rowMean_apply]
    congr 1
    funext k
    show centred x (ix2 r k) * centred x (ix2 r k) = _
    rw [centred_apply]
  pointwise [layerNorm]
  rw [hv, centred_apply]
  rfl

/-- The feed-forward layer on a row. -/
theorem ffn_apply (x : FVec Ideal S4096x2048 .f32) (g b : FVec Ideal S2048 .f32) (w1 : FVec Ideal S2048x8192 .f32) (b1 : FVec Ideal S8192 .f32)
    (w2 : FVec Ideal S8192x2048 .f32) (b2 : FVec Ideal S2048 .f32) (r : Fin 4096) (c : Fin 2048) :
    ffn x g b w1 b1 w2 b2 (ix2 r c) = Row.out (fun k => x (ix2 r k)) (fun k => g (ix1 k)) (fun k => b (ix1 k)) (fun k f => w1 (ix2 k f))
      (fun f => b1 (ix1 f)) (fun f c => w2 (ix2 f c)) (fun c => b2 (ix1 c)) c := by
  pointwise [ffn]
  simp only [layerNorm_apply]
  rfl

/-- The tokens, shuffled by the identity, are the tokens. -/
theorem tokens_apply (X : FVec Ideal S2x2048x2048 .f32) (r : Fin 4096) (c : Fin 2048) :
    tokens X (ix2 r c) = shapeCast S4096x2048 X shapeCasts_S2x2048x2048_S4096x2048 (ix2 r c) :=
  takeRows_apply _ iota_spells r c

/-- The reference's rows: the layer on each token, whatever the dispatch order was. -/
theorem rows_apply (X : FVec Ideal S2x2048x2048 .f32) (e : FVec Ideal S16x2048 .f32) (g b : FVec Ideal S2048 .f32)
    (w1 : FVec Ideal S2048x8192 .f32) (b1 : FVec Ideal S8192 .f32) (w2 : FVec Ideal S8192x2048 .f32) (b2 : FVec Ideal S2048 .f32)
    (r : Fin 4096) (c : Fin 2048) :
    takeRows (takeRows (ffn (takeRows (tokens X) (order X e g b)) g b w1 b1 w2 b2) (inverse (order X e g b))) (inverse (iotaInDim S4096 32 0)) (ix2 r c)
      = Row.out (fun k => shapeCast S4096x2048 X shapeCasts_S2x2048x2048_S4096x2048 (ix2 r k)) (fun k => g (ix1 k)) (fun k => b (ix1 k))
          (fun k f => w1 (ix2 k f)) (fun f => b1 (ix1 f)) (fun f c => w2 (ix2 f c)) (fun c => b2 (ix1 c)) c := by
  obtain ⟨p, hp⟩ := argsort_spells (experts (tokens X) e g b)
  have hid : Spells (iotaInDim S4096 32 0) (Equiv.refl (Fin 4096)) := iota_spells
  rw [there_and_back _ hid, order, there_and_back _ hp, ffn_apply]
  simp only [takeRows_apply _ hp, tokens_apply, Equiv.refl_symm, Equiv.refl_apply, Equiv.apply_symm_apply]

/-- The reference's result: the layer on each token, in the shape of the input. -/
theorem result_eq (X : FVec Ideal S2x2048x2048 .f32) (e : FVec Ideal S16x2048 .f32) (g b : FVec Ideal S2048 .f32)
    (w1 : FVec Ideal S2048x8192 .f32) (b1 : FVec Ideal S8192 .f32) (w2 : FVec Ideal S8192x2048 .f32) (b2 : FVec Ideal S2048 .f32) :
    result X e g b w1 b1 w2 b2 = shapeCast S2x2048x2048 (fun j : S4096x2048.Idx =>
      Row.out (fun k => shapeCast S4096x2048 X shapeCasts_S2x2048x2048_S4096x2048 (ix2 (j 0) k)) (fun k => g (ix1 k)) (fun k => b (ix1 k))
        (fun k f => w1 (ix2 k f)) (fun f => b1 (ix1 f)) (fun f c => w2 (ix2 f c)) (fun c => b2 (ix1 c)) (j 1)) shapeCasts_S4096x2048_S2x2048x2048 := by
  unfold result
  congr 1
  funext j
  obtain ⟨r, c, rfl⟩ : ∃ (r : Fin 4096) (c : Fin 2048), j = ix2 r c := ⟨j 0, j 1, by funext a; match a with | ⟨0, _⟩ => rfl | ⟨1, _⟩ => rfl⟩
  exact rows_apply X e g b w1 b1 w2 b2 r c

end Cert.ReferenceIdeal.Term
-- ==== Proof.Fresh.lean ====
/- The precondition, read off its printed form: scale one, shift and biases zero. -/
module

public import proofs.«01_k».proof.Proof.Gen.Pre_fresh_layer
public import Idealize.ShloMosaic.Lib.ReduceAll
public import Idealize.ShloMosaic.Lib.Pointwise
public import Idealize.ShloMosaic.Lib.IdealHost

@[expose] public section

set_option maxRecDepth 16384

noncomputable section

open Idealize.ShloMosaic

namespace Cert.Pre_fresh_layer

open Cert.Pre_fresh_layer.Gen

/-- An ordered comparison for equality that came out one compared equal numbers. -/
theorem eq_of_oeq {s : Shape} (a b : FVec Ideal s .f32) (i : s.Idx) (h : cmpf .oeq a b i = 1#1) : a i = b i := by
  have h' : Ideal.cmp .oeq (a i) (b i) = 1#1 := h
  simp only [Ideal.cmp] at h'
  by_contra hne
  rw [decide_eq_false hne] at h'
  exact absurd h' (by decide)

instance : Subsingleton S_.Idx := ⟨fun a b => funext fun k => k.elim0⟩

/-- The precondition says: gamma is one, and beta, the first bias and the second bias are zero, everywhere. -/
theorem fresh [Facts] {x : FVec Ideal S2x2048x2048 .f32} {e : FVec Ideal S16x2048 .f32} {g b : FVec Ideal S2048 .f32} {w1 : FVec Ideal S2048x8192 .f32}
    {b1 : FVec Ideal S8192 .f32} {w2 : FVec Ideal S8192x2048 .f32} {b2 : FVec Ideal S2048 .f32} (h : fn x e g b w1 b1 w2 b2 = fun _ => 1#1) :
    (∀ i, g i = (1 : EReal)) ∧ (∀ i, b i = (0 : EReal)) ∧ (∀ i, b1 i = (0 : EReal)) ∧ ∀ i, b2 i = (0 : EReal) := by
  have e1 : (Ideal.ofBits .f32 0x3F800000#32 : EReal) = 1 := Ideal.ofBits_one_f32
  have e0 : (Ideal.ofBits .f32 0x00000000#32 : EReal) = 0 := Ideal.ofBits_zero .f32
  have h0 := congrFun h (Shape.Idx.first Facts.h_S_)
  obtain ⟨h1, hb2⟩ := IntOp.andi_eq_one.1 h0
  obtain ⟨h2, hb1⟩ := IntOp.andi_eq_one.1 h1
  obtain ⟨hg, hb⟩ := IntOp.andi_eq_one.1 h2
  refine ⟨fun i => ?_, fun i => ?_, fun i => ?_, fun i => ?_⟩
  · exact (eq_of_oeq _ _ i (Host.reduce_andi_all _ _ _ _ _ hg i)).trans e1
  · exact (eq_of_oeq _ _ i (Host.reduce_andi_all _ _ _ _ _ hb i)).trans e0
  · exact (eq_of_oeq _ _ i (Host.reduce_andi_all _ _ _ _ _ hb1 i)).trans e0
  · exact (eq_of_oeq _ _ i (Host.reduce_andi_all _ _ _ _ _ hb2 i)).trans e0

end Cert.Pre_fresh_layer
-- ==== Proof.KernelBlock.lean ====
/- What one grid point of the kernel computes. -/
module

public import proofs.«01_k».proof.Proof.Gen.KernelIdeal.Frame
public import proofs.«01_k».proof.Proof.Row
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

/-- The first store of a run: the block of tokens. -/
theorem pay1_apply (x : Vec Ideal S1024x2048 .f32) (r : Fin 1024) (c : Fin 2048) :
    k0_pay1 (F := Ideal) x (ix2 r c) = x (ix2 r c) := by
  pointwise [k0_pay1]

/-- The scratch of a run: the norm of each row of the block. -/
theorem pay2_apply (x : Vec Ideal S1024x2048 .f32) (r : Fin 1024) (c : Fin 2048) :
    k0_pay2 (F := Ideal) x (ix2 r c) = Row.norm (fun k => x (ix2 r k)) c := by
  pointwise [k0_pay2]
  simp only [pay1_apply]
  rfl

/-- What each point adds: 512 hidden units against their rows of the second weights. -/
theorem pay3_apply (h : Vec Ideal S1024x2048 .bf16) (w1 : Vec Ideal S2048x512 .f32) (o : Vec Ideal S1024x2048 .f32)
    (w2 : Vec Ideal S512x2048 .f32) (r : Fin 1024) (c : Fin 2048) :
    k0_pay3 (F := Ideal) h w1 o w2 (ix2 r c)
      = (o (ix2 r c) : EReal) + ∑ f : Fin 512, max (∑ k : Fin 2048, (h (ix2 r k) : EReal) * (w1 (ix2 k f) : EReal)) 0 * (w2 (ix2 f c) : EReal) := by
  pointwise [k0_pay3]

/-- What a point with token block `x` and weight blocks `w1`, `w2` adds to the entry at row `r`, column `c`. -/
def part (x : Vec Ideal S1024x2048 .f32) (w1 : Vec Ideal S2048x512 .f32) (w2 : Vec Ideal S512x2048 .f32) (r : Fin 1024) (c : Fin 2048) : EReal :=
  ∑ f : Fin 512, max (∑ k : Fin 2048, Row.norm (fun k => x (ix2 r k)) k * (w1 (ix2 k f) : EReal)) 0 * (w2 (ix2 f c) : EReal)

/-- Over the scratch of its run a point adds its part. -/
theorem step_apply (x : Vec Ideal S1024x2048 .f32) (w1 : Vec Ideal S2048x512 .f32) (o : Vec Ideal S1024x2048 .f32)
    (w2 : Vec Ideal S512x2048 .f32) (r : Fin 1024) (c : Fin 2048) :
    k0_pay3 (F := Ideal) (k0_pay2 x) w1 o w2 (ix2 r c) = (o (ix2 r c) : EReal) + part x w1 w2 r c := by
  rw [pay3_apply]
  simp only [pay2_apply]
  rfl

end Cert.KernelIdeal.Block
-- ==== Proof.KernelRun.lean ====
/- What the kernel's buffers hold after each point of its grid. -/
module

public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Block

variable (m : (ℓ : Loc nD τ sig) → Buf (Elt Ideal) ℓ)

/-- Every index of a block of tokens is a row and a column. -/
theorem exists_ix2 (j : S1024x2048.Idx) : ∃ (r : Fin 1024) (k : Fin 2048), j = ix2 r k :=
  ⟨j 0, j 1, by funext a; match a with | ⟨0, _⟩ => rfl | ⟨1, _⟩ => rfl⟩

/-- Which block each window is at, at each point. -/
theorem idx : ∀ t : Fin cfg0.N, win0_0.index t = ![t.val / 16, 0] ∧ win0_1.index t = ![0, t.val % 16] ∧ win0_2.index t = ![t.val % 16, 0]
    ∧ win0_3.index t = ![t.val / 16, 0] := (by decide +kernel : ∀ t : Fin grid0.N, _)

/-- The block of tokens at a point. -/
abbrev X (c : Dev nD) (t : Fin cfg0.N) : Vec Ideal S1024x2048 .f32 := iblk m c 0 t
/-- The block of first weights at a point. -/
abbrev W1 (c : Dev nD) (t : Fin cfg0.N) : Vec Ideal S2048x512 .f32 := iblk m c 1 t
/-- The block of second weights at a point. -/
abbrev W2 (c : Dev nD) (t : Fin cfg0.N) : Vec Ideal S512x2048 .f32 := iblk m c 2 t

/-- Within a run the block of tokens does not move. -/
theorem X_pred (c : Dev nD) (t : Fin cfg0.N) (h : ¬t.val % 16 = 0) :
    X m c ⟨t.val - 1, Nat.lt_of_le_of_lt (Nat.sub_le _ _) t.isLt⟩ = X m c t := by
  funext y
  unfold X
  blk_ext [iblk, idx t, idx ⟨t.val - 1, Nat.lt_of_le_of_lt (Nat.sub_le _ _) t.isLt⟩]

/-- First point of a run: the scratch. -/
theorem scratch_first (c : Dev nD) (t : Fin cfg0.N) (h : t.val % 16 = 0) :
    (outsAt0 m c t.val t.isLt).2 = k0_pay2 (X m c t) := by
  rw [outsAt0_A m c t h]
  frame_out

/-- The scratch after every point of a run: the norm of the run's tokens. -/
theorem scratch (c : Dev nD) (n : ℕ) (hn : n < cfg0.N) : (outsAt0 m c n hn).2 = k0_pay2 (X m c ⟨n, hn⟩) := by
  induction n with
  | zero => exact scratch_first m c ⟨0, hn⟩ (Nat.zero_mod _)
  | succ n ih =>
    by_cases h : (n + 1) % 16 = 0
    · exact scratch_first m c ⟨n + 1, hn⟩ h
    · rw [outsAt0_B m c ⟨n + 1, hn⟩ h]
      refine (ih (Nat.lt_of_succ_lt hn)).trans (congrArg _ ?_)
      exact X_pred m c ⟨n + 1, hn⟩ h

/-- First point of a run: the tokens and the point's part. -/
theorem out_first (c : Dev nD) (t : Fin cfg0.N) (h : t.val % 16 = 0) (j : S1024x2048.Idx) :
    (outsAt0 m c t.val t.isLt).1 j = (X m c t (ix2 (j 0) (j 1)) : EReal) + part (X m c t) (W1 m c t) (W2 m c t) (j 0) (j 1) := by
  obtain ⟨r, k, rfl⟩ := exists_ix2 j
  rw [outsAt0_A m c t h]
  frame_out
  refine (step_apply (X m c t) (W1 m c t) (k0_pay1 (X m c t)) (W2 m c t) r k).trans ?_
  rw [pay1_apply]
  rfl

/-- Another point of a run: what the point before left and the point's part. -/
theorem out_next (c : Dev nD) (t : Fin cfg0.N) (h : ¬t.val % 16 = 0) (j : S1024x2048.Idx) :
    (outsAt0 m c t.val t.isLt).1 j = ((outsAt0 m c (t.val - 1) (Nat.lt_of_le_of_lt (Nat.sub_le _ _) t.isLt)).1 j : EReal)
      + part (X m c t) (W1 m c t) (W2 m c t) (j 0) (j 1) := by
  obtain ⟨r, k, rfl⟩ := exists_ix2 j
  have e := (scratch m c (t.val - 1) (Nat.lt_of_le_of_lt (Nat.sub_le _ _) t.isLt)).trans (congrArg _ (X_pred m c t h))
  rw [outsAt0_B m c t h]
  frame_out
  refine Eq.trans (b := k0_pay3 (k0_pay2 (X m c t)) (W1 m c t) (outsAt0 m c (t.val - 1) (Nat.lt_of_le_of_lt (Nat.sub_le _ _) t.isLt)).1 (W2 m c t) (ix2 r k)) ?_ ?_
  · refine congrArg (fun h => k0_pay3 (F := Ideal) h _ _ _ _) ?_
    exact (Memref.IsWhole.read_unread _ _).trans e
  generalize (outsAt0 m c (t.val - 1) (Nat.lt_of_le_of_lt (Nat.sub_le _ _) t.isLt)) = p
  exact step_apply (X m c t) (W1 m c t) p.1 (W2 m c t) r k

end Cert.KernelIdeal.Run
-- ==== Proof.KernelArray.lean ====
/- What the kernel's result array holds after the run. -/
module

public import proofs.«01_k».proof.Proof.KernelRun

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Block

/-- The layer without scale, shift and biases, on an array of 4096 tokens. -/
def rows (x : FVec Ideal S4096x2048 .f32) (w1 : FVec Ideal S2048x8192 .f32) (w2 : FVec Ideal S8192x2048 .f32) : FVec Ideal S4096x2048 .f32 :=
  fun j => Row.plain (fun k => x (ix2 (j 0) k)) (fun k f => w1 (ix2 k f)) (fun f c => w2 (ix2 f c)) (j 1)

variable (m : (ℓ : Loc nD τ sig) → Buf (Elt Ideal) ℓ)

theorem point_lt (t : Fin cfg0.N) : t.val < 64 := lt_of_lt_of_eq t.isLt N_0

/-- A block of tokens, read in the array. -/
theorem X_apply (c : Dev nD) (t : Fin cfg0.N) (r : Fin 1024) (k : Fin 2048) (R : Fin 4096) (hR : R.val = t.val / 16 * 1024 + r.val) :
    X m c t (ix2 r k) = (V m c main_v0 : FVec Ideal S4096x2048 .f32) (ix2 R k) := by
  unfold X
  blk_ext [iblk, idx t]

/-- A block of first weights, read in the array. -/
theorem W1_apply (c : Dev nD) (t : Fin cfg0.N) (k : Fin 2048) (f : Fin 512) (f' : Fin 8192) (hf : f'.val = t.val % 16 * 512 + f.val) :
    W1 m c t (ix2 k f) = (V m c main_arg4 : FVec Ideal S2048x8192 .f32) (ix2 k f') := by
  unfold W1
  blk_ext [iblk, idx t]

/-- A block of second weights, read in the array. -/
theorem W2_apply (c : Dev nD) (t : Fin cfg0.N) (f : Fin 512) (k : Fin 2048) (f' : Fin 8192) (hf : f'.val = t.val % 16 * 512 + f.val) :
    W2 m c t (ix2 f k) = (V m c main_arg6 : FVec Ideal S8192x2048 .f32) (ix2 f' k) := by
  unfold W2
  blk_ext [iblk, idx t]

/-- The tokens and the parts of a whole run are the layer's entry. -/
theorem run_total (c : Dev nD) (t : Fin cfg0.N) (hr : t.val % 16 = 16 - 1) (r : Fin 1024) (k : Fin 2048) (R : Fin 4096)
    (hR : R.val = t.val / 16 * 1024 + r.val) :
    (X m c ⟨16 * (t.val / 16) + (0 : Fin 16).val, Pipeline.run_point_lt_of_flush t hr 0⟩ (ix2 r k) : EReal)
      + ∑ s : Fin 16, part (X m c ⟨16 * (t.val / 16) + s.val, Pipeline.run_point_lt_of_flush t hr s⟩)
          (W1 m c ⟨16 * (t.val / 16) + s.val, Pipeline.run_point_lt_of_flush t hr s⟩)
          (W2 m c ⟨16 * (t.val / 16) + s.val, Pipeline.run_point_lt_of_flush t hr s⟩) r k
      = rows (V m c main_v0) (V m c main_arg4) (V m c main_arg6) (ix2 R k) := by
  show _ = Row.plain _ _ _ _
  unfold Row.plain
  refine congrArg₂ (· + ·) (X_apply m c _ r k R (by dsimp only; omega)) ?_
  simp only [part]
  refine Fin.sum_mul_add_congr fun s f hl => ?_
  have hx (j : Fin 2048) := X_apply m c ⟨16 * (t.val / 16) + s.val, Pipeline.run_point_lt_of_flush t hr s⟩ r j R (by dsimp only; omega)
  have h1 (j : Fin 2048) := W1_apply m c ⟨16 * (t.val / 16) + s.val, Pipeline.run_point_lt_of_flush t hr s⟩ j f ⟨s.val * 512 + f.val, hl⟩ (by dsimp only; omega)
  have h2 := W2_apply m c ⟨16 * (t.val / 16) + s.val, Pipeline.run_point_lt_of_flush t hr s⟩ f k ⟨s.val * 512 + f.val, hl⟩ (by dsimp only; omega)
  simp only [hx, h1, h2]
  rfl

/-- After the run the output array holds the layer's rows. -/
theorem final (c : Dev nD) : (dats m 0 c).arrAt 3 (cfgs 0).N
    = rows (V m c main_v0) (V m c main_arg4) (V m c main_arg6) := by
  refine (dats m 0 c).arrAt_eq_of_covers 3 _ (by decide +kernel) fun t hf y => ?_
  blk_simp
  rw [after0_3, Row.run_sum (fun n h => (outsAt0 m c n h).1) 16 _ _ (out_first m c) (out_next m c) t ((flush0_3 t).mp hf) _]
  have ht := point_lt t
  have hy : (y 0).val < 1024 := (y 0).isLt
  have e : (win0_3.blk t).view.emb y = ix2 ⟨t.val / 16 * 1024 + (y 0).val, by omega⟩ (y 1) := by blk_ext [idx t]
  refine (run_total m c t ((flush0_3 t).mp hf) (y 0) (y 1) ⟨t.val / 16 * 1024 + (y 0).val, by omega⟩ rfl).trans ?_
  exact congrArg _ e.symm

/-- The kernel's result as a function of its arguments: the rows, in the shape of the input. -/
def result (x : FVec Ideal S2x2048x2048 .f32) (w1 : FVec Ideal S2048x8192 .f32) (w2 : FVec Ideal S8192x2048 .f32) : FVec Ideal S2x2048x2048 .f32 :=
  shapeCast S2x2048x2048 (rows (shapeCast S4096x2048 x shapeCasts_S2x2048x2048_S4096x2048) w1 w2) shapeCasts_S4096x2048_S2x2048x2048

/-- The array of tokens at the region's entry: the input, reshaped. -/
theorem entry_tokens (c : Dev nD) : (V m c main_v0 : FVec Ideal S4096x2048 .f32)
    = shapeCast S4096x2048 (m ((c : Thread nD τ).loc main_arg0)) shapeCasts_S2x2048x2048_S4096x2048 := by
  show V m c main_v0 = _
  unfold V V0
  simp only [hostOps0, List.flatten_cons, List.flatten_nil, List.append_nil]
  after_results
  rfl

/-- The result buffer after the last line. -/
theorem tail (c : Dev nD) : Pipeline.afterTail₀ cfgs (dats m) 0 (V0 m) [hostOps1] c main_v2
    = result (m ((c : Thread nD τ).loc main_arg0)) (m ((c : Thread nD τ).loc main_arg4)) (m ((c : Thread nD τ).loc main_arg6)) := by
  have h := (Pipeline.withArrays_arr spec0 (by decide) c (V0 m c) (fun w => (dats m 0 c).arrAt w (cfgs 0).N) 3).trans (final m c)
  rw [entry_tokens, V_main_arg4, V_main_arg6] at h
  unfold Pipeline.afterTail₀
  simp only [hostOps1, List.flatten_cons, List.flatten_nil, List.append_nil]
  after_results
  exact congrArg (fun y => shapeCast S2x2048x2048 y shapeCasts_S4096x2048_S2x2048x2048) h

/-- The run of the kernel: its result buffer ends at `result` of its arguments, and the arguments end as they began. -/
theorem run (g : Dev nD → PrngReg) : θ_run defs (onTc (τ := τ) (main (F := Ideal))) ⟨m, fun _ => 0, g⟩ (fun r => ∀ c : Dev nD,
    r.2.mem ((c.tc : Thread nD τ).loc main_v2)
        = result (m ((c.tc : Thread nD τ).loc main_arg0)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from run_main m g & unchanged m g
  exact tail m c

end Cert.KernelIdeal.Run
-- ==== Proof.Equal.lean ====
/- The equation: each kernel's result is the reference's result. -/
module

public import proofs.«01_k».proof.Defs
public import proofs.«01_k».proof.Proof.RefRun
public import proofs.«01_k».proof.Proof.RefValue
public import proofs.«01_k».proof.Proof.Fresh
public import proofs.«01_k».proof.Proof.KernelArray
public import proofs.«01_k».proof.Proof.GeneralArray

@[expose] public section

set_option maxRecDepth 16384

noncomputable section

open Idealize.ShloMosaic Idealize.ShloMosaic.TcCoe Idealize.SL.Sem

namespace Cert.Proof

/-- The general kernel's result is the reference's, at every input. -/
theorem general_eq (X : FVec Ideal ⟨3, ![2, 2048, 2048]⟩ .f32) (e : FVec Ideal ⟨2, ![16, 2048]⟩ .f32) (g b : FVec Ideal ⟨1, ![2048]⟩ .f32)
    (w1 : FVec Ideal ⟨2, ![2048, 8192]⟩ .f32) (b1 : FVec Ideal ⟨1, ![8192]⟩ .f32) (w2 : FVec Ideal ⟨2, ![8192, 2048]⟩ .f32) (b2 : FVec Ideal ⟨1, ![2048]⟩ .f32) :
    Cert.ReferenceIdeal.Term.result X e g b w1 b1 w2 b2 = Cert.GeneralIdeal.Run.result X g b w1 b1 w2 b2 :=
  (Cert.ReferenceIdeal.Term.result_eq X e g b w1 b1 w2 b2).trans rfl

/-- The kernel's result is the reference's where the scale is one and the shift and biases are zero. -/
theorem kernel_eq (X : FVec Ideal ⟨3, ![2, 2048, 2048]⟩ .f32) (e : FVec Ideal ⟨2, ![16, 2048]⟩ .f32) (g b : FVec Ideal ⟨1, ![2048]⟩ .f32)
    (w1 : FVec Ideal ⟨2, ![2048, 8192]⟩ .f32) (b1 : FVec Ideal ⟨1, ![8192]⟩ .f32) (w2 : FVec Ideal ⟨2, ![8192, 2048]⟩ .f32) (b2 : FVec Ideal ⟨1, ![2048]⟩ .f32)
    (h : Cert.Pre_fresh_layer.fn X e g b w1 b1 w2 b2 = fun _ => 1#1) :
    Cert.ReferenceIdeal.Term.result X e g b w1 b1 w2 b2 = Cert.KernelIdeal.Run.result X w1 w2 := by
  obtain ⟨hg, hb, h1, h2⟩ := Cert.Pre_fresh_layer.fresh h
  refine (Cert.ReferenceIdeal.Term.result_eq X e g b w1 b1 w2 b2).trans ?_
  unfold Cert.KernelIdeal.Run.result Cert.KernelIdeal.Run.rows
  refine congrArg (fun y => shapeCast _ y _) (funext fun j => ?_)
  exact Cert.Row.out_fresh _ _ _ (fun k => hg _) (fun k => hb _) (fun f => h1 _) (fun k => h2 _) _

/-- The value claim of the kernel. -/
theorem kernel_algebraic : Cert.algebraic_KernelIdeal_ReferenceIdeal_pre_fresh_layer := by
  pair_intro
  · run_from Cert.KernelIdeal.Run.run m g
  · have h := (θ_run _ _ _).mono (fun _ h => h.1) (Cert.ReferenceIdeal.Term.run (F := Ideal) m' g')
    run_from h
    exact kernel_eq _ _ _ _ _ _ _ _ (hpre c)

/-- The value claim of the general kernel. -/
theorem general_algebraic : Cert.algebraic_GeneralIdeal_ReferenceIdeal := by
  pair_intro
  · run_from Cert.GeneralIdeal.Run.run m g
  · have h := (θ_run _ _ _).mono (fun _ h => h.1) (Cert.ReferenceIdeal.Term.run (F := Ideal) m' g')
    run_from h
    exact general_eq _ _ _ _ _ _ _ _

end Cert.Proof
-- ==== Proof.lean ====
/- The certificate's claims put together. The frames of the two kernels come from the generated modules and that
   of the reference from its run; the two value claims are proved in Proof/Equal.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.General
public import proofs.«01_k».proof.Proof.Gen.General.Skeleton
public import proofs.«01_k».proof.Proof.Gen.General.Launch
public import proofs.«01_k».proof.Proof.Gen.General.Points
public import proofs.«01_k».proof.Proof.Gen.General.Frame
public import proofs.«01_k».proof.Proof.Gen.GeneralIdeal
public import proofs.«01_k».proof.Proof.Gen.GeneralIdeal.Skeleton
public import proofs.«01_k».proof.Proof.Gen.GeneralIdeal.Launch
public import proofs.«01_k».proof.Proof.Gen.GeneralIdeal.Points
public import proofs.«01_k».proof.Proof.Gen.GeneralIdeal.Frame
public import proofs.«01_k».proof.Proof.Gen.ReferenceIdeal
public import proofs.«01_k».proof.Proof.Gen.Pre_fresh_layer
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: it ends, its arguments end as they began, and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run _ _ _).mono (fun _ h => ⟨fun c => (h.1 c).2, h.2⟩) (Cert.ReferenceIdeal.Term.run (F := Ideal) m g)

/-- Every claim of the certificate: the frames, the two idealizations, and the two value claims. -/
theorem claim : Cert.Claim := ⟨Cert.Kernel.Gen.facts, Cert.KernelIdeal.Gen.facts, Cert.General.Gen.facts, Cert.GeneralIdeal.Gen.facts,
  Cert.ReferenceIdeal.Gen.facts, Cert.Pre_fresh_layer.Gen.facts,
  fun m g _ => Cert.Kernel.Gen.frame m g, fun m g _ => Cert.KernelIdeal.Gen.frame m g, fun m g _ => Cert.KernelIdeal.Gen.frame m g,
  fun m g _ => Cert.General.Gen.frame m g, fun m g _ => Cert.GeneralIdeal.Gen.frame m g,
  fun m g _ => reference_frame m g, fun m g _ => reference_frame m g,
  trivial, trivial, kernel_algebraic, general_algebraic⟩

end Cert.Proof

end
